-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .f32) (main_arg1 : FVec F S512x8192 .f32) : IVec S256x512 1 × IVec S512x8192 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S4x512x1024 : Shape := ⟨3, ![4, 512, 1024]⟩
abbrev S8x256x512 : Shape := ⟨3, ![8, 256, 512]⟩
abbrev S16x256x512 : Shape := ⟨3, ![16, 256, 512]⟩
abbrev S256x1 : Shape := ⟨2, ![256, 1]⟩
abbrev S4 : Shape := ⟨1, ![4]⟩
abbrev S16 : Shape := ⟨1, ![16]⟩
abbrev S8 : Shape := ⟨1, ![8]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S256x1024 : Shape := ⟨2, ![256, 1024]⟩
abbrev S1x256x512 : Shape := ⟨3, ![1, 256, 512]⟩
abbrev S256 : Shape := ⟨1, ![256]⟩

abbrev nBuf : Space → Nat
  | .hbm => 3
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S4x512x1024, .f32⟩
  | .local _ .vmem, ⟨2, _⟩ => ⟨S8x256x512, .bf16⟩
  | .local _ .vmem, ⟨3, _⟩ => ⟨S8x256x512, .bf16⟩
  | .local _ .vmem, ⟨4, _⟩ => ⟨S16x256x512, .f32⟩
  | .local _ .vmem, ⟨5, _⟩ => ⟨S256x1, .f32⟩
  | .local _ .vmem, ⟨6, _⟩ => ⟨S256x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_20 : BitVec 32 := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v22 : BitVec 32 := Scalar.muli v10 c1024_i32
  ![0, v22.toNat]
def k0_off2 (d0 : Dev nD) : Fin 2 → Nat :=
  let c0_i32_25 : BitVec 32 := 0#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let c1024_i32_13 : BitVec 32 := 1024#32
  let v23 : BitVec 32 := Scalar.muli v11 c1024_i32_13
  ![0, v23.toNat]
def k0_off3 (d0 : Dev nD) : Fin 2 → Nat :=
  let c0_i32_30 : BitVec 32 := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32 : BitVec 32 := 0#32
  let v12 : BitVec 1 := Scalar.cmpi .eq v10 c0_i32
  let c3_i32_4 : BitVec 32 := 3#32
  let v13 : BitVec 1 := Scalar.cmpi .eq v10 c3_i32_4
  let v14 : BitVec 1 := Scalar.ori v12 v13
  let c1_i32_5 : BitVec 32 := 1#32
  let c0_i32_6 : BitVec 32 := 0#32
  let v15 : BitVec 32 := Scalar.select v14 c1_i32_5 c0_i32_6
  let c1024_i32_14 : BitVec 32 := 1024#32
  let v24 : BitVec 32 := Scalar.muli v15 c1024_i32_14
  ![0, v24.toNat]
def k0_off4 (d0 : Dev nD) : Fin 2 → Nat :=
  let c0_i32_35 : BitVec 32 := 0#32
  let c3_i32_7 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32 : BitVec 32 := 0#32
  let v12 : BitVec 1 := Scalar.cmpi .eq v10 c0_i32
  let c3_i32_4 : BitVec 32 := 3#32
  let v13 : BitVec 1 := Scalar.cmpi .eq v10 c3_i32_4
  let v14 : BitVec 1 := Scalar.ori v12 v13
  let c1_i32_5 : BitVec 32 := 1#32
  let c0_i32_6 : BitVec 32 := 0#32
  let v15 : BitVec 32 := Scalar.select v14 c1_i32_5 c0_i32_6
  let v16 : BitVec 32 := Scalar.subi c3_i32_7 v15
  let c1024_i32_15 : BitVec 32 := 1024#32
  let v25 : BitVec 32 := Scalar.muli v16 c1024_i32_15
  ![0, v25.toNat]
def k0_dev1 (d0 : Dev nD) : Nat :=
  let c0_i32_38 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_37 : BitVec 32 := 4#32
  let v47 : BitVec 32 := Scalar.muli v19 c4_i32_37
  let v48 : BitVec 32 := Scalar.addi c0_i32_38 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v49 : BitVec 32 := Scalar.muli v5 c2_i32_39
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v51 : BitVec 32 := Scalar.muli v8 c1_i32_40
  let v52 : BitVec 32 := Scalar.addi v50 v51
  v52.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v53 : BitVec 32 := Scalar.muli v2 c4_i32_42
  let v54 : BitVec 32 := Scalar.addi c0_i32_43 v53
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let c2_i32_44 : BitVec 32 := 2#32
  let v55 : BitVec 32 := Scalar.muli v20 c2_i32_44
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v57 : BitVec 32 := Scalar.muli v8 c1_i32_45
  let v58 : BitVec 32 := Scalar.addi v56 v57
  v58.toNat
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v59 : BitVec 32 := Scalar.muli v2 c4_i32_47
  let v60 : BitVec 32 := Scalar.addi c0_i32_48 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v61 : BitVec 32 := Scalar.muli v5 c2_i32_49
  let v62 : BitVec 32 := Scalar.addi v60 v61
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_50 : BitVec 32 := 1#32
  let v63 : BitVec 32 := Scalar.muli v21 c1_i32_50
  let v64 : BitVec 32 := Scalar.addi v62 v63
  v64.toNat
def k0_off5 (d0 : Dev nD) : Fin 3 → Nat :=
  let c2_i32_66 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v86 : BitVec 32 := Scalar.muli c2_i32_66 v10
  let c0_i32_74 : BitVec 32 := 0#32
  let c0_i32_75 : BitVec 32 := 0#32
  ![v86.toNat, 0, 0]
def k0_dev4 (d0 : Dev nD) : Nat :=
  let c0_i32_71 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_70 : BitVec 32 := 4#32
  let v87 : BitVec 32 := Scalar.muli v19 c4_i32_70
  let v88 : BitVec 32 := Scalar.addi c0_i32_71 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v89 : BitVec 32 := Scalar.muli v5 c2_i32_72
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v91 : BitVec 32 := Scalar.muli v8 c1_i32_73
  let v92 : BitVec 32 := Scalar.addi v90 v91
  v92.toNat
def k0_off6 (d0 : Dev nD) : Fin 3 → Nat :=
  let c2_i32_78 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v101 : BitVec 32 := Scalar.muli c2_i32_78 v10
  let c1_i32_79 : BitVec 32 := 1#32
  let v102 : BitVec 32 := Scalar.addi v101 c1_i32_79
  let c0_i32_87 : BitVec 32 := 0#32
  let c0_i32_88 : BitVec 32 := 0#32
  ![v102.toNat, 0, 0]
def k0_dev5 (d0 : Dev nD) : Nat :=
  let c0_i32_84 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_83 : BitVec 32 := 4#32
  let v103 : BitVec 32 := Scalar.muli v19 c4_i32_83
  let v104 : BitVec 32 := Scalar.addi c0_i32_84 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v105 : BitVec 32 := Scalar.muli v5 c2_i32_85
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v107 : BitVec 32 := Scalar.muli v8 c1_i32_86
  let v108 : BitVec 32 := Scalar.addi v106 v107
  v108.toNat
def k0_dev6 (d0 : Dev nD) : Nat :=
  let c0_i32_162 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_161 : BitVec 32 := 4#32
  let v215 : BitVec 32 := Scalar.muli v19 c4_i32_161
  let v216 : BitVec 32 := Scalar.addi c0_i32_162 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v217 : BitVec 32 := Scalar.muli v5 c2_i32_163
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v219 : BitVec 32 := Scalar.muli v8 c1_i32_164
  let v220 : BitVec 32 := Scalar.addi v218 v219
  v220.toNat
def k0_off7 (d0 : Dev nD) : Fin 3 → Nat :=
  let c2_i32_165 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v221 : BitVec 32 := Scalar.muli c2_i32_165 v11
  let c0_i32_173 : BitVec 32 := 0#32
  let c0_i32_174 : BitVec 32 := 0#32
  ![v221.toNat, 0, 0]
def k0_dev7 (d0 : Dev nD) : Nat :=
  let c0_i32_170 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_169 : BitVec 32 := 4#32
  let v222 : BitVec 32 := Scalar.muli v19 c4_i32_169
  let v223 : BitVec 32 := Scalar.addi c0_i32_170 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v224 : BitVec 32 := Scalar.muli v5 c2_i32_171
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v226 : BitVec 32 := Scalar.muli v8 c1_i32_172
  let v227 : BitVec 32 := Scalar.addi v225 v226
  v227.toNat
def k0_off8 (d0 : Dev nD) : Fin 3 → Nat :=
  let c2_i32_177 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v236 : BitVec 32 := Scalar.muli c2_i32_177 v11
  let c1_i32_178 : BitVec 32 := 1#32
  let v237 : BitVec 32 := Scalar.addi v236 c1_i32_178
  let c0_i32_186 : BitVec 32 := 0#32
  let c0_i32_187 : BitVec 32 := 0#32
  ![v237.toNat, 0, 0]
def k0_dev8 (d0 : Dev nD) : Nat :=
  let c0_i32_183 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_182 : BitVec 32 := 4#32
  let v238 : BitVec 32 := Scalar.muli v19 c4_i32_182
  let v239 : BitVec 32 := Scalar.addi c0_i32_183 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v240 : BitVec 32 := Scalar.muli v5 c2_i32_184
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v242 : BitVec 32 := Scalar.muli v8 c1_i32_185
  let v243 : BitVec 32 := Scalar.addi v241 v242
  v243.toNat
def k0_dev9 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v266 : BitVec 32 := Scalar.muli v2 c4_i32_205
  let v267 : BitVec 32 := Scalar.addi c0_i32_206 v266
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let c2_i32_207 : BitVec 32 := 2#32
  let v268 : BitVec 32 := Scalar.muli v20 c2_i32_207
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v270 : BitVec 32 := Scalar.muli v8 c1_i32_208
  let v271 : BitVec 32 := Scalar.addi v269 v270
  v271.toNat
def k0_dev10 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v282 : BitVec 32 := Scalar.muli v2 c4_i32_216
  let v283 : BitVec 32 := Scalar.addi c0_i32_217 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v284 : BitVec 32 := Scalar.muli v5 c2_i32_218
  let v285 : BitVec 32 := Scalar.addi v283 v284
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_219 : BitVec 32 := 1#32
  let v286 : BitVec 32 := Scalar.muli v21 c1_i32_219
  let v287 : BitVec 32 := Scalar.addi v285 v286
  v287.toNat
def k0_dev11 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v312 : BitVec 32 := Scalar.muli v2 c4_i32_240
  let v313 : BitVec 32 := Scalar.addi c0_i32_241 v312
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let c2_i32_242 : BitVec 32 := 2#32
  let v314 : BitVec 32 := Scalar.muli v20 c2_i32_242
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v316 : BitVec 32 := Scalar.muli v8 c1_i32_243
  let v317 : BitVec 32 := Scalar.addi v315 v316
  v317.toNat
def k0_dev12 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v330 : BitVec 32 := Scalar.muli v2 c4_i32_253
  let v331 : BitVec 32 := Scalar.addi c0_i32_254 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v332 : BitVec 32 := Scalar.muli v5 c2_i32_255
  let v333 : BitVec 32 := Scalar.addi v331 v332
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_256 : BitVec 32 := 1#32
  let v334 : BitVec 32 := Scalar.muli v21 c1_i32_256
  let v335 : BitVec 32 := Scalar.addi v333 v334
  v335.toNat
def k0_off9 (d0 : Dev nD) (c0_i32_272 : BitVec 32) : Fin 2 → Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v354 : BitVec 32 := Scalar.muli v2 c4096_i32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32_271 : BitVec 32 := 1024#32
  let v361 : BitVec 32 := Scalar.muli v10 c1024_i32_271
  let v362 : BitVec 32 := Scalar.addi v354 v361
  let v363 : BitVec 32 := Scalar.addi v362 c0_i32_272
  ![0, v363.toNat]
def k0_off10 (d0 : Dev nD) (c0_i32_297 : BitVec 32) : Fin 2 → Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v354 : BitVec 32 := Scalar.muli v2 c4096_i32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let c1024_i32_296 : BitVec 32 := 1024#32
  let v395 : BitVec 32 := Scalar.muli v11 c1024_i32_296
  let v396 : BitVec 32 := Scalar.addi v354 v395
  let v397 : BitVec 32 := Scalar.addi v396 c0_i32_297
  ![0, v397.toNat]
def k0_off11 (d0 : Dev nD) (c0_i32_323 : BitVec 32) : Fin 2 → Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v354 : BitVec 32 := Scalar.muli v2 c4096_i32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32 : BitVec 32 := 0#32
  let v12 : BitVec 1 := Scalar.cmpi .eq v10 c0_i32
  let c3_i32_4 : BitVec 32 := 3#32
  let v13 : BitVec 1 := Scalar.cmpi .eq v10 c3_i32_4
  let v14 : BitVec 1 := Scalar.ori v12 v13
  let c1_i32_5 : BitVec 32 := 1#32
  let c0_i32_6 : BitVec 32 := 0#32
  let v15 : BitVec 32 := Scalar.select v14 c1_i32_5 c0_i32_6
  let c1024_i32_322 : BitVec 32 := 1024#32
  let v429 : BitVec 32 := Scalar.muli v15 c1024_i32_322
  let v430 : BitVec 32 := Scalar.addi v354 v429
  let v431 : BitVec 32 := Scalar.addi v430 c0_i32_323
  ![0, v431.toNat]
def k0_off12 (d0 : Dev nD) (c0_i32_349 : BitVec 32) : Fin 2 → Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v354 : BitVec 32 := Scalar.muli v2 c4096_i32
  let c3_i32_7 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32 : BitVec 32 := 0#32
  let v12 : BitVec 1 := Scalar.cmpi .eq v10 c0_i32
  let c3_i32_4 : BitVec 32 := 3#32
  let v13 : BitVec 1 := Scalar.cmpi .eq v10 c3_i32_4
  let v14 : BitVec 1 := Scalar.ori v12 v13
  let c1_i32_5 : BitVec 32 := 1#32
  let c0_i32_6 : BitVec 32 := 0#32
  let v15 : BitVec 32 := Scalar.select v14 c1_i32_5 c0_i32_6
  let v16 : BitVec 32 := Scalar.subi c3_i32_7 v15
  let c1024_i32_348 : BitVec 32 := 1024#32
  let v463 : BitVec 32 := Scalar.muli v16 c1024_i32_348
  let v464 : BitVec 32 := Scalar.addi v354 v463
  let v465 : BitVec 32 := Scalar.addi v464 c0_i32_349
  ![0, v465.toNat]
def k0_off13 (d0 : Dev nD) : Fin 3 → Nat :=
  let c2_i32_373 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v493 : BitVec 32 := Scalar.muli c2_i32_373 v10
  let v494 : Index := Scalar.indexCast v493
  let c0_374 : Index := 0#32
  let c0_375 : Index := 0#32
  ![v494.toNat, 0, 0]
def k0_off14 (d0 : Dev nD) : Fin 2 → Nat :=
  let c0_i32_380 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_373 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v493 : BitVec 32 := Scalar.muli c2_i32_373 v10
  let c512_i32_376 : BitVec 32 := 512#32
  let v501 : BitVec 32 := Scalar.muli v493 c512_i32_376
  let v502 : BitVec 32 := Scalar.addi v492 v501
  ![0, v502.toNat]
def k0_off15 (d0 : Dev nD) : Fin 3 → Nat :=
  let c2_i32_383 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v511 : BitVec 32 := Scalar.muli c2_i32_383 v10
  let c1_i32_384 : BitVec 32 := 1#32
  let v512 : BitVec 32 := Scalar.addi v511 c1_i32_384
  let v513 : Index := Scalar.indexCast v512
  let c0_385 : Index := 0#32
  let c0_386 : Index := 0#32
  ![v513.toNat, 0, 0]
def k0_off16 (d0 : Dev nD) : Fin 2 → Nat :=
  let c0_i32_391 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_383 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v511 : BitVec 32 := Scalar.muli c2_i32_383 v10
  let c1_i32_384 : BitVec 32 := 1#32
  let v512 : BitVec 32 := Scalar.addi v511 c1_i32_384
  let c512_i32_387 : BitVec 32 := 512#32
  let v520 : BitVec 32 := Scalar.muli v512 c512_i32_387
  let v521 : BitVec 32 := Scalar.addi v492 v520
  ![0, v521.toNat]
def k0_off17 (d0 : Dev nD) : Fin 3 → Nat :=
  let c2_i32_405 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v542 : BitVec 32 := Scalar.muli c2_i32_405 v11
  let v543 : Index := Scalar.indexCast v542
  let c0_406 : Index := 0#32
  let c0_407 : Index := 0#32
  ![v543.toNat, 0, 0]
def k0_off18 (d0 : Dev nD) : Fin 2 → Nat :=
  let c0_i32_412 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_405 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v542 : BitVec 32 := Scalar.muli c2_i32_405 v11
  let c512_i32_408 : BitVec 32 := 512#32
  let v550 : BitVec 32 := Scalar.muli v542 c512_i32_408
  let v551 : BitVec 32 := Scalar.addi v492 v550
  ![0, v551.toNat]
def k0_off19 (d0 : Dev nD) : Fin 3 → Nat :=
  let c2_i32_426 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v572 : BitVec 32 := Scalar.muli c2_i32_426 v11
  let c1_i32_427 : BitVec 32 := 1#32
  let v573 : BitVec 32 := Scalar.addi v572 c1_i32_427
  let v574 : Index := Scalar.indexCast v573
  let c0_428 : Index := 0#32
  let c0_429 : Index := 0#32
  ![v574.toNat, 0, 0]
def k0_off20 (d0 : Dev nD) : Fin 2 → Nat :=
  let c0_i32_434 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_426 : BitVec 32 := 2#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let v572 : BitVec 32 := Scalar.muli c2_i32_426 v11
  let c1_i32_427 : BitVec 32 := 1#32
  let v573 : BitVec 32 := Scalar.addi v572 c1_i32_427
  let c512_i32_430 : BitVec 32 := 512#32
  let v581 : BitVec 32 := Scalar.muli v573 c512_i32_430
  let v582 : BitVec 32 := Scalar.addi v492 v581
  ![0, v582.toNat]
def k0_off21 (d0 : Dev nD) (c2_i32_8 : BitVec 32) : Fin 3 → Nat :=
  let c2_i32_437 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v591 : BitVec 32 := Scalar.muli c2_i32_437 v17
  let c0_i32_449 : BitVec 32 := 0#32
  let c0_i32_450 : BitVec 32 := 0#32
  ![v591.toNat, 0, 0]
def k0_off22 (d0 : Dev nD) (c2_i32_8 : BitVec 32) : Fin 3 → Nat :=
  let c2_i32_437 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v591 : BitVec 32 := Scalar.muli c2_i32_437 v17
  let v609 : Index := Scalar.indexCast v591
  let c0_453 : Index := 0#32
  let c0_454 : Index := 0#32
  ![v609.toNat, 0, 0]
def k0_off23 (d0 : Dev nD) (c2_i32_8 : BitVec 32) : Fin 2 → Nat :=
  let c0_i32_459 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_437 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v591 : BitVec 32 := Scalar.muli c2_i32_437 v17
  let c512_i32_455 : BitVec 32 := 512#32
  let v616 : BitVec 32 := Scalar.muli v591 c512_i32_455
  let v617 : BitVec 32 := Scalar.addi v492 v616
  ![0, v617.toNat]
def k0_off24 (d0 : Dev nD) (c2_i32_8 : BitVec 32) : Fin 3 → Nat :=
  let c2_i32_438 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v592 : BitVec 32 := Scalar.muli c2_i32_438 v17
  let c1_i32_439 : BitVec 32 := 1#32
  let v593 : BitVec 32 := Scalar.addi v592 c1_i32_439
  let c0_i32_468 : BitVec 32 := 0#32
  let c0_i32_469 : BitVec 32 := 0#32
  ![v593.toNat, 0, 0]
def k0_off25 (d0 : Dev nD) (c2_i32_8 : BitVec 32) : Fin 3 → Nat :=
  let c2_i32_438 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v592 : BitVec 32 := Scalar.muli c2_i32_438 v17
  let c1_i32_439 : BitVec 32 := 1#32
  let v593 : BitVec 32 := Scalar.addi v592 c1_i32_439
  let v638 : Index := Scalar.indexCast v593
  let c0_472 : Index := 0#32
  let c0_473 : Index := 0#32
  ![v638.toNat, 0, 0]
def k0_off26 (d0 : Dev nD) (c2_i32_8 : BitVec 32) : Fin 2 → Nat :=
  let c0_i32_478 : BitVec 32 := 0#32
  let c1_i32_371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.subi c1_i32_371 v2
  let c4096_i32_372 : BitVec 32 := 4096#32
  let v492 : BitVec 32 := Scalar.muli v491 c4096_i32_372
  let c2_i32_438 : BitVec 32 := 2#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v17 : BitVec 32 := Scalar.xori v10 c2_i32_8
  let v592 : BitVec 32 := Scalar.muli c2_i32_438 v17
  let c1_i32_439 : BitVec 32 := 1#32
  let v593 : BitVec 32 := Scalar.addi v592 c1_i32_439
  let c512_i32_474 : BitVec 32 := 512#32
  let v645 : BitVec 32 := Scalar.muli v593 c512_i32_474
  let v646 : BitVec 32 := Scalar.addi v492 v645
  ![0, v646.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
/-
The mesh of eight devices and the kernel's own addresses on it: a device's three neighbours, which
quarter of its columns it computes in which order, which slot of the landing buffer each transfer
fills, and which chunk of columns each piece of the result is.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.SoftmaxProof

open Cert.KernelIdeal Cert.KernelIdeal.Gen
open Idealize.ShloMosaic Idealize.ShloMosaic.TcCoe

/-! ## Neighbours -/

set_option backward.proofsInPublic true in
/-- The neighbour along `x`: it holds the other half of the columns. -/
def xn (c : Dev nD) : Dev nD := ⟨(c.val + 4) % 8, Nat.mod_lt _ (by decide)⟩
set_option backward.proofsInPublic true in
/-- The neighbour along `y`. -/
def yn (c : Dev nD) : Dev nD := ⟨(c.val / 4 * 4 + (c.val + 2) % 4) % 8, Nat.mod_lt _ (by decide)⟩
set_option backward.proofsInPublic true in
/-- The neighbour along `z`. -/
def zn (c : Dev nD) : Dev nD := ⟨(c.val / 2 * 2 + (c.val + 1) % 2) % 8, Nat.mod_lt _ (by decide)⟩

theorem xn_xn : ∀ c, xn (xn c) = c := by decide +kernel
theorem yn_yn : ∀ c, yn (yn c) = c := by decide +kernel
theorem zn_zn : ∀ c, zn (zn c) = c := by decide +kernel

/-- The neighbour of a duty: 0 along `x`, 1 along `y`, 2 along `z`. -/
def nb (c : Dev nD) : Fin 3 → Dev nD := ![xn c, yn c, zn c]
theorem nb_nb : ∀ c d, nb (nb c d) d = c := by decide +kernel
/-- Going to a neighbour and back, for every direction. -/
def nbEquiv (d : Fin 3) : Dev nD ≃ Dev nD := ⟨fun c => nb c d, fun c => nb c d, fun c => nb_nb c d, fun c => nb_nb c d⟩

/-! ## Quarters, slots and chunks of columns -/

set_option backward.proofsInPublic true in
/-- The quarter of the device's half that it computes in turn `r`: its own, the opposite one, the two others. -/
def qd (c : Dev nD) : Fin 4 → Fin 4 :=
  ![Fin.ofNat 4 (c.val % 4), Fin.ofNat 4 (3 - c.val % 4),
    Fin.ofNat 4 (if c.val % 4 = 0 ∨ c.val % 4 = 3 then 1 else 0), Fin.ofNat 4 (if c.val % 4 = 0 ∨ c.val % 4 = 3 then 2 else 3)]

set_option backward.proofsInPublic true in
/-- The chunk of 512 columns, within the device's half, of its local chunk `j`. -/
def lcol (c : Dev nD) (j : Fin 8) : Fin 8 := Fin.ofNat 8 (2 * (qd c (Fin.ofNat 4 (j.val / 2))).val + j.val % 2)

/-- The device the chunk transfer `j` into `c` is sent by. -/
def from8 (c : Dev nD) : Fin 8 → Dev nD := ![xn c, xn c, xn c, xn c, yn c, yn c, zn c, zn c]

/-- The slot of the landing buffer that transfer `j` into `c` fills: the chunk, within the other half. -/
def slot (c : Dev nD) : Fin 8 → Fin 8 :=
  ![lcol c 0, lcol c 1, lcol c 2, lcol c 3, lcol (yn c) 0, lcol (yn c) 1, lcol (zn c) 0, lcol (zn c) 1]

theorem slot_injective : ∀ c, Function.Injective (slot c) := by decide +kernel
theorem qd_injective : ∀ c, Function.Injective (qd c) := by decide +kernel
theorem lcol_injective : ∀ c, Function.Injective (lcol c) := by decide +kernel
theorem lcol_xn : ∀ c j, lcol (xn c) j = lcol c j := by decide +kernel
theorem slot_xn : ∀ c j, slot (xn c) j = slot c j := by decide +kernel
/-- The slot a forwarded chunk lands in is the slot the sender received it in. -/
theorem slot_yn : ∀ c, slot (yn c) 4 = slot c 0 ∧ slot (yn c) 5 = slot c 1 := by decide +kernel
theorem slot_zn : ∀ c, slot (zn c) 6 = slot c 0 ∧ slot (zn c) 7 = slot c 1 := by decide +kernel

set_option backward.proofsInPublic true in
/-- The chunk of 512 columns of the whole result that piece `t` of device `c` is: first the eight of its own half,
    then the eight it receives. -/
def wcol (c : Dev nD) (t : Fin 16) : Fin 16 :=
  if t.val < 8 then Fin.ofNat 16 (8 * (c.val / 4) + (lcol c (Fin.ofNat 8 t.val)).val)
  else Fin.ofNat 16 (8 * ((xn c).val / 4) + (slot c (Fin.ofNat 8 (t.val - 8))).val)

theorem wcol_injective : ∀ c, Function.Injective (wcol c) := by decide +kernel
theorem wcol_surjective (c : Dev nD) : Function.Surjective (wcol c) := Finite.surjective_of_injective (wcol_injective c)
theorem slot_surjective (c : Dev nD) : Function.Surjective (slot c) := Finite.surjective_of_injective (slot_injective c)
theorem qd_surjective (c : Dev nD) : Function.Surjective (qd c) := Finite.surjective_of_injective (qd_injective c)

/-! ## The kernel's device chains -/

theorem dev1_eq (c : Dev nD) : (⟨k0_dev1 c, k0_dev1_lt c⟩ : Dev nD) = xn c := by revert c; decide +kernel
theorem dev2_eq (c : Dev nD) : (⟨k0_dev2 c, k0_dev2_lt c⟩ : Dev nD) = yn c := by revert c; decide +kernel
theorem dev3_eq (c : Dev nD) : (⟨k0_dev3 c, k0_dev3_lt c⟩ : Dev nD) = zn c := by revert c; decide +kernel
theorem dev4_eq (c : Dev nD) : (⟨k0_dev4 c, k0_dev4_lt c⟩ : Dev nD) = xn c := by revert c; decide +kernel
theorem dev5_eq (c : Dev nD) : (⟨k0_dev5 c, k0_dev5_lt c⟩ : Dev nD) = xn c := by revert c; decide +kernel
theorem dev6_eq (c : Dev nD) : (⟨k0_dev6 c, k0_dev6_lt c⟩ : Dev nD) = xn c := by revert c; decide +kernel
theorem dev7_eq (c : Dev nD) : (⟨k0_dev7 c, k0_dev7_lt c⟩ : Dev nD) = xn c := by revert c; decide +kernel
theorem dev8_eq (c : Dev nD) : (⟨k0_dev8 c, k0_dev8_lt c⟩ : Dev nD) = xn c := by revert c; decide +kernel
theorem dev9_eq (c : Dev nD) : (⟨k0_dev9 c, k0_dev9_lt c⟩ : Dev nD) = yn c := by revert c; decide +kernel
theorem dev10_eq (c : Dev nD) : (⟨k0_dev10 c, k0_dev10_lt c⟩ : Dev nD) = zn c := by revert c; decide +kernel
theorem dev11_eq (c : Dev nD) : (⟨k0_dev11 c, k0_dev11_lt c⟩ : Dev nD) = yn c := by revert c; decide +kernel
theorem dev12_eq (c : Dev nD) : (⟨k0_dev12 c, k0_dev12_lt c⟩ : Dev nD) = zn c := by revert c; decide +kernel

/-! ## The kernel's offsets

A window of the weights starts at its quarter's columns; a landing slot at its number; a piece of the result at its
chunk's columns. -/

theorem off1_eq : ∀ c, k0_off1 c = ![0, 1024 * (qd c 0).val] := by decide +kernel
theorem off2_eq : ∀ c, k0_off2 c = ![0, 1024 * (qd c 1).val] := by decide +kernel
theorem off3_eq : ∀ c, k0_off3 c = ![0, 1024 * (qd c 2).val] := by decide +kernel
theorem off4_eq : ∀ c, k0_off4 c = ![0, 1024 * (qd c 3).val] := by decide +kernel

theorem off5_eq : ∀ c, k0_off5 c = ![(slot c 0).val, 0, 0] := by decide +kernel
theorem off6_eq : ∀ c, k0_off6 c = ![(slot c 1).val, 0, 0] := by decide +kernel
theorem off7_eq : ∀ c, k0_off7 c = ![(slot c 2).val, 0, 0] := by decide +kernel
theorem off8_eq : ∀ c, k0_off8 c = ![(slot c 3).val, 0, 0] := by decide +kernel
theorem off13_eq : ∀ c, k0_off13 c = ![(slot c 0).val, 0, 0] := by decide +kernel
theorem off15_eq : ∀ c, k0_off15 c = ![(slot c 1).val, 0, 0] := by decide +kernel
theorem off17_eq : ∀ c, k0_off17 c = ![(slot c 2).val, 0, 0] := by decide +kernel
theorem off19_eq : ∀ c, k0_off19 c = ![(slot c 3).val, 0, 0] := by decide +kernel
theorem off21y_eq : ∀ c, k0_off21 c 2#32 = ![(slot c 4).val, 0, 0] := by decide +kernel
theorem off24y_eq : ∀ c, k0_off24 c 2#32 = ![(slot c 5).val, 0, 0] := by decide +kernel
theorem off21z_eq : ∀ c, k0_off21 c 1#32 = ![(slot c 6).val, 0, 0] := by decide +kernel
theorem off24z_eq : ∀ c, k0_off24 c 1#32 = ![(slot c 7).val, 0, 0] := by decide +kernel
theorem off22y_eq : ∀ c, k0_off22 c 2#32 = ![(slot c 4).val, 0, 0] := by decide +kernel
theorem off25y_eq : ∀ c, k0_off25 c 2#32 = ![(slot c 5).val, 0, 0] := by decide +kernel
theorem off22z_eq : ∀ c, k0_off22 c 1#32 = ![(slot c 6).val, 0, 0] := by decide +kernel
theorem off25z_eq : ∀ c, k0_off25 c 1#32 = ![(slot c 7).val, 0, 0] := by decide +kernel

theorem off9a_eq : ∀ c, k0_off9 c 0#32 = ![0, 512 * (wcol c 0).val] := by decide +kernel
theorem off9b_eq : ∀ c, k0_off9 c 512#32 = ![0, 512 * (wcol c 1).val] := by decide +kernel
theorem off10a_eq : ∀ c, k0_off10 c 0#32 = ![0, 512 * (wcol c 2).val] := by decide +kernel
theorem off10b_eq : ∀ c, k0_off10 c 512#32 = ![0, 512 * (wcol c 3).val] := by decide +kernel
theorem off11a_eq : ∀ c, k0_off11 c 0#32 = ![0, 512 * (wcol c 4).val] := by decide +kernel
theorem off11b_eq : ∀ c, k0_off11 c 512#32 = ![0, 512 * (wcol c 5).val] := by decide +kernel
theorem off12a_eq : ∀ c, k0_off12 c 0#32 = ![0, 512 * (wcol c 6).val] := by decide +kernel
theorem off12b_eq : ∀ c, k0_off12 c 512#32 = ![0, 512 * (wcol c 7).val] := by decide +kernel
theorem off14_eq : ∀ c, k0_off14 c = ![0, 512 * (wcol c 8).val] := by decide +kernel
theorem off16_eq : ∀ c, k0_off16 c = ![0, 512 * (wcol c 9).val] := by decide +kernel
theorem off18_eq : ∀ c, k0_off18 c = ![0, 512 * (wcol c 10).val] := by decide +kernel
theorem off20_eq : ∀ c, k0_off20 c = ![0, 512 * (wcol c 11).val] := by decide +kernel
theorem off23y_eq : ∀ c, k0_off23 c 2#32 = ![0, 512 * (wcol c 12).val] := by decide +kernel
theorem off26y_eq : ∀ c, k0_off26 c 2#32 = ![0, 512 * (wcol c 13).val] := by decide +kernel
theorem off23z_eq : ∀ c, k0_off23 c 1#32 = ![0, 512 * (wcol c 14).val] := by decide +kernel
theorem off26z_eq : ∀ c, k0_off26 c 1#32 = ![0, 512 * (wcol c 15).val] := by decide +kernel

/-! ## The buffers, their slots and windows, the semaphores -/

abbrev wR : Memref sig .tc .vmem S4x512x1024 .f32 := Memref.whole cc0_scratch0
abbrev lR : Memref sig .tc .vmem S8x256x512 .bf16 := Memref.whole cc0_scratch1
abbrev pR : Memref sig .tc .vmem S8x256x512 .bf16 := Memref.whole cc0_scratch2
abbrev oR : Memref sig .tc .vmem S16x256x512 .f32 := Memref.whole cc0_scratch3
abbrev sR : Memref sig .tc .vmem S256x1 .f32 := Memref.whole cc0_scratch4
abbrev spR : Memref sig .tc .vmem S256x1 .f32 := Memref.whole cc0_scratch5
abbrev xR : Memref sig .tc .vmem S256x512 .f32 := Memref.whole cc0_stg0_0
abbrev WR : Memref sig .tc .hbm S512x4096 .f32 := Memref.whole main_arg1
abbrev outR : Memref sig .tc .hbm S256x8192 .f32 := Memref.whole main_v1

set_option backward.proofsInPublic true in
/-- Slot `r` of the weights' buffer. -/
abbrev wRect (r : Fin 4) : Rect S4x512x1024 := Rect.unit (s := S4x512x1024) ![r.val, 0, 0] S1x512x1024.size
  (by revert r; decide)
set_option backward.proofsInPublic true in
/-- Slot `j` of the logits' buffer or of the landing buffer. -/
abbrev cRect (j : Fin 8) : Rect S8x256x512 := Rect.unit (s := S8x256x512) ![j.val, 0, 0] S1x256x512.size
  (by revert j; decide)
set_option backward.proofsInPublic true in
/-- Slot `t` of the result's buffer. -/
abbrev oRect (t : Fin 16) : Rect S16x256x512 := Rect.unit (s := S16x256x512) ![t.val, 0, 0] S1x256x512.size
  (by revert t; decide)
set_option backward.proofsInPublic true in
/-- The `q`-th quarter of the weights' columns. -/
abbrev WRect (q : Fin 4) : Rect S512x4096 := Rect.unit (s := S512x4096) ![0, 1024 * q.val] S512x1024.size
  (by revert q; decide)
set_option backward.proofsInPublic true in
/-- The `k`-th sixteenth of the result's columns. -/
abbrev outRect (k : Fin 16) : Rect S256x8192 := Rect.unit (s := S256x8192) ![0, 512 * k.val] S256x512.size
  (by revert k; decide)

abbrev wSl (r : Fin 4) : Memref sig .tc .vmem S1x512x1024 .f32 := wR.slice (wRect r) (fun _ => rfl)
abbrev lSl (j : Fin 8) : Memref sig .tc .vmem S1x256x512 .bf16 := lR.slice (cRect j) (fun _ => rfl)
abbrev pSl (j : Fin 8) : Memref sig .tc .vmem S1x256x512 .bf16 := pR.slice (cRect j) (fun _ => rfl)
abbrev oSl (t : Fin 16) : Memref sig .tc .vmem S1x256x512 .f32 := oR.slice (oRect t) (fun _ => rfl)
abbrev WSl (q : Fin 4) : Memref sig .tc .hbm S512x1024 .f32 := WR.slice (WRect q) (fun _ => rfl)
abbrev outSl (k : Fin 16) : Memref sig .tc .hbm S256x512 .f32 := outR.slice (outRect k) (fun _ => rfl)

/-- A slice at an equal offset is the same slice. -/
theorem slice_congr {sp : Space} {s : Shape} {e : EltTy} (m : Memref sig .tc sp s e) {off off' size : Fin s.rank → ℕ}
    (inb : ∀ a, off a + size a ≤ s.size a) (h : off = off') (inb' : ∀ a, off' a + size a ≤ s.size a) :
    m.slice (Rect.unit off size inb) (fun _ => rfl) = m.slice (Rect.unit off' size inb') (fun _ => rfl) := by subst h; rfl

/-- The barrier semaphore of the mesh. -/
abbrev barS : Sem sig := (SemArray.scalar (sig.barrier 0 rfl) : Sems sig S_).sem

end Cert.SoftmaxProof

end
-- ==== Proof.Steps.lean ====
/-
One lemma for each kind of memory operation of the kernel, stated on what a device holds of a view and
reads through it (`owns`): a load, a store, a copy between two views of one device and its wait.
-/
module

public import proofs.«01_k».proof.Proof.Mesh
public import Idealize.ShloMosaic.Lib.Pipeline.Launch
public import Idealize.ShloMosaic.Lib.Tactic
public import Idealize.ShloMosaic.Lib.VecWindow

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra: the pipeline's, the protocol's, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Views -/

section Views
variable {sp sp' : Space} {s s' : Shape} {e : EltTy}

omit [FloatOps F] in
/-- Contents read through a view with its unit axes dropped. -/
theorem owns_squeeze (c : Dev nD) (m : Memref sig .tc sp s e) (h : s.Squeezes s') (q : PosShare TreeShare)
    (X : s.Idx → Elt F e) :
    (owns (c : Thread nD τ) (m.squeeze s' h) q (fun y => X (Shape.reshapeEquiv h.numel_eq y)) : sProp 𝕄)
      = owns (c : Thread nD τ) m q X := by
  have hset : (m.squeeze s' h).view.set = m.view.set := View.set_reshape (v := m.view) h.numel_eq
  have hrd : ∀ f, (m.squeeze s' h).view.read (Elt F) f = fun y => m.view.read (Elt F) f (Shape.reshapeEquiv h.numel_eq y) := fun f => rfl
  have h₁ : (owns (c : Thread nD τ) (m.squeeze s' h) q (fun y => X (Shape.reshapeEquiv h.numel_eq y)) : sProp 𝕄)
      ⊢ owns (c : Thread nD τ) m q X := by
    unfold owns
    rw [hset]
    iintro ⟨%f, %hf, H⟩
    iexists f
    isplitr
    · ipureintro
      rw [hrd] at hf
      funext i
      have := congrFun hf ((Shape.reshapeEquiv h.numel_eq).symm i)
      simpa using this
    · iexact H
  have h₂ : (owns (c : Thread nD τ) m q X : sProp 𝕄)
      ⊢ owns (c : Thread nD τ) (m.squeeze s' h) q (fun y => X (Shape.reshapeEquiv h.numel_eq y)) := by
    unfold owns
    rw [hset]
    iintro ⟨%f, %hf, H⟩
    iexists f
    isplitr
    · ipureintro; rw [hrd, hf]
    · iexact H
  exact BI.equiv_iff.mp ⟨h₁, h₂⟩

omit [FloatOps F] in
/-- A view held for reading twice: its two halves. -/
theorem owns_share (c : Dev nD) (m : Memref sig .tc sp s e) (q : PosShare TreeShare) (X : s.Idx → Elt F e) :
    (owns (c : Thread nD τ) m q X : sProp 𝕄) ⊢ iprop(owns (c : Thread nD τ) m q.left X ∗ owns (c : Thread nD τ) m q.right X) := by
  unfold owns
  iintro ⟨%f, %hf, H⟩
  ihave H' := (pointsTo_share (PosShare.mem_left_op_right q)).1 $$ H
  icases H' with ⟨H1, H2⟩
  isplitl [H1]
  · iexists f; isplitr; · ipureintro; exact hf
    iexact H1
  · iexists f; isplitr; · ipureintro; exact hf
    iexact H2

end Views

omit [FloatOps F] in
theorem owns_unshare (c : Dev nD) {sp : Space} {s : Shape} {e : EltTy} (m : Memref sig .tc sp s e) (q : PosShare TreeShare) (X : s.Idx → Elt F e) :
    iprop(owns (c : Thread nD τ) m q.left X ∗ owns (c : Thread nD τ) m q.right X) ⊢ (owns (c : Thread nD τ) m q X : sProp 𝕄) := by
  unfold owns
  iintro ⟨⟨%f, %hf, H1⟩, ⟨%g, %hg, H2⟩⟩
  iexists f
  isplitr
  · ipureintro; exact hf
  · have hfg : (m.view.loc (c : Thread nD τ) ↦[m.view.set]{q.right} g : sProp 𝕄) = m.view.loc (c : Thread nD τ) ↦[m.view.set]{q.right} f :=
      pointsTo_congr fun i hi => by
        rw [View.set, Finset.mem_map] at hi
        obtain ⟨x, -, rfl⟩ := hi
        have := congrFun (hf.trans hg.symm) x
        simp only [View.read] at this
        exact ((cast_inj _).mp this).symm
    ihave H2 := (BIBase.Entails.of_eq hfg) $$ H2
    ihave H := (pointsTo_share (PosShare.mem_left_op_right q)).2 $$ [H1 H2]
    · isplitl [H1] <;> iassumption
    iexact H

/-! ## Steps -/

section Steps
variable (defs : Defs nD τ sig (Elt F) Λ₀) (𝒱 : Variants)
variable {s : Shape} {e : EltTy} {α : Type} {Q : α → sProp (MT nD τ sig Unit (Elt F) ℕ UU ℕ)}

/-- A load of a slot reads what the slot holds. -/
theorem step_load (c : Dev nD) {cs : CoreSpace} {m : Memref sig .tc cs s e} {off off' size : Fin s.rank → ℕ} {inb : ∀ a, off a + size a ≤ s.size a}
    {inb' : ∀ a, off' a + size a ≤ s.size a} (h : off = off')
    {hl : m.view.LoadsAt (Rect.unit off size inb).toLoadRect} {q : PosShare TreeShare}
    {X : (Rect.unit off size inb).shape.Idx → Elt F e}
    {k : ((Rect.unit off size inb).toLoadRect.shape.Idx → Elt F e) → Prog (TpuEff nD τ sig (Elt F) Λ₀ .tc) α} :
    (owns (c : Thread nD τ) (m.slice (Rect.unit off' size inb') (fun _ => rfl)) q X : sProp 𝕄)
      ⊢ iprop((owns (c : Thread nD τ) (m.slice (Rect.unit off' size inb') (fun _ => rfl)) q X
            -∗ wp frame (wpE defs 𝒱 (c : Thread nD τ) none) Set.univ (k X) Q)
          -∗ wp frame (wpE defs 𝒱 (c : Thread nD τ) none) Set.univ (.op (.load m (Rect.unit off size inb).toLoadRect hl) k) Q) := by
  subst h
  unfold owns
  iintro ⟨%f, %hf, H⟩ Hk
  subst hf
  iapply (wp_load_rect 𝒱 (c : Thread nD τ) none Set.univ (m := m) (r := Rect.unit off size inb) (hl := hl) (k := k) (f := f) subset_rfl) $$ H
  iintro H
  iapply Hk
  iexists f
  isplitr
  · ipureintro; rfl
  · iexact H

/-- A store of a whole slot leaves what is stored. -/
theorem step_store (c : Dev nD) {cs : CoreSpace} {m : Memref sig .tc cs s e} {off off' size : Fin s.rank → ℕ} {inb : ∀ a, off a + size a ≤ s.size a}
    {inb' : ∀ a, off' a + size a ≤ s.size a} (h : off = off') {w : (Rect.unit off size inb).shape.Idx → Elt F e}
    {hx : (m.access (Rect.unit off size inb)).Stores Finset.univ} {hm : Finset.univ = Finset.univ ∨ ∀ a, (Rect.unit off size inb).stride a = 1}
    {X : (Rect.unit off size inb).shape.Idx → Elt F e}
    {k : PUnit → Prog (TpuEff nD τ sig (Elt F) Λ₀ .tc) α} :
    (owns (c : Thread nD τ) (m.slice (Rect.unit off' size inb') (fun _ => rfl)) fullShare X : sProp 𝕄)
      ⊢ iprop((owns (c : Thread nD τ) (m.slice (Rect.unit off' size inb') (fun _ => rfl)) fullShare w
            -∗ wp frame (wpE defs 𝒱 (c : Thread nD τ) none) Set.univ (k ⟨⟩) Q)
          -∗ wp frame (wpE defs 𝒱 (c : Thread nD τ) none) Set.univ (.op (.store m (Rect.unit off size inb) w Finset.univ hx hm) k) Q) := by
  subst h
  unfold owns
  iintro ⟨%f, %hf, H⟩ Hk
  iapply (wp_store 𝒱 (c : Thread nD τ) none Set.univ (m := m) (r := Rect.unit off size inb) (w := w) (Mk := Finset.univ) (hx := hx) (hm := hm) (k := k) (f := f) (S := (m.access (Rect.unit off size inb)).set) subset_rfl) $$ H
  iintro H
  iapply Hk
  iexists ((m.access (Rect.unit off size inb)).write (Elt F) f w Finset.univ)
  isplitr
  · ipureintro; exact Memref.read_slice_write m inb rfl inb f w
  · iexact H

/-- A copy between two views of one device: its flight brings back the source and the destination holding what the
    source holds. -/
theorem step_copy (c : Dev nD) {sp sp' : Space} {src src' : Memref sig .tc sp s e} {dst dst' : Memref sig .tc sp' s e} (hs : src = src') (hd : dst = dst')
    {sm sm' : SemLoc sig} (hsm : sm = sm')
    {hsrc : src.view.WordExact} {hdst : dst.view.WordExact} {hsem : (DmaTarget.here dst : DmaTarget nD τ sig .tc sp' s e).Typed sp sm}
    {k : PUnit → Prog (TpuEff nD τ sig (Elt F) Λ₀ .tc) α} {q : PosShare TreeShare}
    {X Y : s.Idx → Elt F e} (N : ℕ) (hN : dst'.view.amount sm' = N) (hN0 : 0 < N) :
    iprop(owns (c : Thread nD τ) src' q X ∗ owns (c : Thread nD τ) dst' fullShare Y ∗ semVal ((c : Thread nD τ), sm') 0)
      ⊢ iprop((Flight EC (c : Thread nD τ) sm' () N iprop(owns (c : Thread nD τ) dst' fullShare X ∗ owns (c : Thread nD τ) src' q X)
              -∗ wp frame (wpE defs 𝒱 (c : Thread nD τ) none) Set.univ (k ⟨⟩) Q)
          -∗ wp frame (wpE defs 𝒱 (c : Thread nD τ) none) Set.univ (.op (.enqueueDma src (.here dst) sm hsrc hdst hsem) k) Q) := by
  subst hs hd hsm
  unfold owns
  iintro ⟨⟨%fs, %hfs, Hs⟩, ⟨%fd, %hfd, Hd⟩, Hv⟩ Hk
  subst hfs
  iapply (wp_dmaLocal EC 𝒱 (c : Thread nD τ) none (Q := Q) (k := k) (src := src) (dst := dst) (sm := sm) (fs := fs) (fd := fd) () N hN hN0 subset_rfl) $$ [Hs Hd Hv]
  · isplitl [Hs]; · iexact Hs
    isplitl [Hd] <;> iassumption
  iintro Hf
  iapply Hk
  iapply (Flight_mono EC (c : Thread nD τ) ?_) $$ Hf
  iintro ⟨Hd, Hs⟩
  isplitl [Hd]
  · iexists _
    isplitr
    rotate_left
    · iexact Hd
    · ipureintro; exact View.read_write_univ _ _
  · iexists fs
    isplitr
    · ipureintro; rfl
    · iexact Hs

/-- The wait for a local copy. -/
theorem step_wait (c : Dev nD) {sp sp' : Space} {s' : Shape} {e' : EltTy} {sem sem' : DmaSem sig} (hsm : sem = sem')
    {srcw : Memref sig .tc sp' s' e'} {dstw : Memref sig .tc sp s e} {hsrc : srcw.view.WordExact} {hdst : dstw.view.WordExact}
    {k : PUnit → Prog (TpuEff nD τ sig (Elt F) Λ₀ .tc) α} {N : ℕ} (hN : dstw.view.dmaCredit = N) {D : sProp 𝕄}
    {O : CellTallies nD τ sig Unit} {W : Waits sig Unit} :
    iprop(Flight EC (c : Thread nD τ) (.dma sem') () N D ∗ owes (c : Thread nD τ) O W ∗ MayWait (c : Thread nD τ) (.dma sem') () O)
      ⊢ iprop((iprop(D ∗ semVal ((c : Thread nD τ), .dma sem') 0 ∗ owes (c : Thread nD τ) O (insert (SemLoc.dma sem', ()) W))
              -∗ wp frame (wpE defs 𝒱 (c : Thread nD τ) none) Set.univ (k ⟨⟩) Q)
          -∗ wp frame (wpE defs 𝒱 (c : Thread nD τ) none) Set.univ (.op (.waitDma2 sem srcw dstw hsrc hdst) k) Q) := by
  subst hsm
  exact wp_waitLocalO EC 𝒱 (c : Thread nD τ) none () hN

end Steps

end Cert.SoftmaxProof

end
-- ==== Proof.Contents.lean ====
/-
What the buffers hold at each stage, from a device's own arrays: its block of the weights, the
logits of its eight chunks, the row sums, the scaled exponentials it writes out.
-/
module

public import proofs.«01_k».proof.Proof.Mesh

@[expose] public section

noncomputable section

namespace Cert.SoftmaxProof

open Cert.KernelIdeal Cert.KernelIdeal.Gen
open Idealize.ShloMosaic Idealize.ShloMosaic.TcCoe

variable {F : FTy → Type} [FloatOps F]

/-- Contents of a view with a unit axis, read without it, and back. -/
def sq {e : EltTy} {s s' : Shape} (h : s.Squeezes s') (X : s.Idx → Elt F e) : s'.Idx → Elt F e := fun y => X (Shape.reshapeEquiv h.numel_eq y)
def unsq {e : EltTy} {s s' : Shape} (h : s.Squeezes s') (X : s'.Idx → Elt F e) : s.Idx → Elt F e := fun y => X ((Shape.reshapeEquiv h.numel_eq).symm y)

omit [FloatOps F] in
theorem sq_unsq {e : EltTy} {s s' : Shape} (h : s.Squeezes s') (X : s'.Idx → Elt F e) : sq (F := F) h (unsq h X) = X := by
  funext y; unfold sq unsq; rw [Equiv.symm_apply_apply]

/-- What arrives in each transfer, of the chunks `f`: the `x` neighbour's, directly or through the other two neighbours. -/
def arrive {α : Type} (f : Dev nD → Fin 8 → α) (c : Dev nD) : Fin 8 → α :=
  ![f (xn c) 0, f (xn c) 1, f (xn c) 2, f (xn c) 3, f (xn (yn c)) 0, f (xn (yn c)) 1, f (xn (zn c)) 0, f (xn (zn c)) 1]

variable (m : (ℓ : Loc nD τ sig) → Buf (Elt F) ℓ)

/-- The staged input. -/
def xv (c : Dev nD) : Vec F S256x512 .f32 := (win0_0.blk (0 : Fin 1)).view.read (Elt F) (m ((c : Thread nD τ).loc main_arg0))
/-- The weights' columns of turn `r`, in place and in their slot. -/
def Wx (c : Dev nD) (r : Fin 4) : S512x1024.Idx → Elt F .f32 := (WSl (qd c r)).view.read (Elt F) (m ((c : Thread nD τ).loc main_arg1))
def wX (c : Dev nD) (r : Fin 4) : Vec F S1x512x1024 .f32 := unsq squeezes_S1x512x1024_S512x1024 (Wx m c r)

/-- The logits of chunk `j`. -/
def lg (c : Dev nD) : Fin 8 → Vec F S1x256x512 .bf16 :=
  ![k0_pay3 (xv m c) (wX m c 0), k0_pay4 (xv m c) (wX m c 0),
    k0_pay6 (k0_pay1 (xv m c)) (wX m c 1), k0_pay7 (k0_pay1 (xv m c)) (wX m c 1),
    k0_pay9 (k0_pay1 (xv m c)) (wX m c 2), k0_pay11 (k0_pay10 (k0_pay1 (xv m c)) (wX m c 2)),
    k0_pay13 (k0_pay1 (xv m c)) (wX m c 3), k0_pay14 (k0_pay1 (xv m c)) (wX m c 3)]
/-- The row sums over a device's half: in two of the chunks, in all eight, as they are sent. -/
def s2 (c : Dev nD) : Vec F S256x1 .f32 := k0_pay15 (lg m c 0) (lg m c 1)
def s8 (c : Dev nD) : Vec F S256x1 .f32 := k0_pay16 (s2 m c) (lg m c 2) (lg m c 3) (lg m c 4) (lg m c 5) (lg m c 6) (lg m c 7)
def sv (c : Dev nD) : Vec F S256x1 .f32 := k0_pay17 (s2 m c) (lg m c 2) (lg m c 3) (lg m c 4) (lg m c 5) (lg m c 6) (lg m c 7)
/-- The reciprocal of the whole row sums. -/
def inv (c : Dev nD) : Vec F S256x1 .f32 := k0_pay18 (s8 m c) (sv m (xn c))

/-- The contents of transfer `j` into `c`. -/
def rcv (c : Dev nD) : Fin 8 → Vec F S1x256x512 .bf16 := arrive (lg m) c

/-- Piece `t` of the result. -/
def ov (c : Dev nD) : Fin 16 → Vec F S1x256x512 .f32 :=
  ![k0_pay19 (s8 m c) (sv m (xn c)) (lg m c 0), k0_pay21 (k0_pay20 (s8 m c) (sv m (xn c)) (lg m c 1)),
    k0_pay22 (inv m c) (lg m c 2), k0_pay24 (inv m c) (k0_pay23 (lg m c 3)),
    k0_pay25 (inv m c) (lg m c 4), k0_pay26 (inv m c) (lg m c 5), k0_pay27 (inv m c) (lg m c 6), k0_pay28 (inv m c) (lg m c 7),
    k0_pay29 (inv m c) (rcv m c 0), k0_pay30 (inv m c) (rcv m c 1), k0_pay31 (inv m c) (rcv m c 2), k0_pay32 (inv m c) (rcv m c 3),
    k0_pay33 (inv m c) (rcv m c 4), k0_pay34 (inv m c) (rcv m c 5), k0_pay35 (inv m c) (rcv m c 6), k0_pay37 (k0_pay36 (inv m c) (rcv m c 7))]

end Cert.SoftmaxProof

end
-- ==== Proof.Protocol.lean ====
/-
The protocol between the devices: the barrier, the eight chunk transfers and the transfer of the row
sums, each a cell of one round; what each payment hands over; what a device owes at each stage.
-/
module

public import proofs.«01_k».proof.Proof.Steps
public import proofs.«01_k».proof.Proof.Contents
public import Idealize.ShloMosaic.Lib.Rounds

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The cells -/

/-- A transfer: one of the eight chunks, or (`none`) the row sums. -/
abbrev Tr : Type := Option (Fin 8)
/-- A cell of a device: its barrier (`none`), or a transfer's arrival (`false`) or departure (`true`). -/
abbrev Cell : Type := Option (Bool × Tr)

set_option backward.proofsInPublic true in
def sendS : Tr → DmaSem sig
  | none => (cc0_scratch10 : DmaSems sig S_).sem
  | some j => (((cc0_scratch8 : DmaSems sig S8).slice (Rect.unit (s := S8) ![j.val] S1.size (by revert j; decide))).squeeze S_ squeezes_S1_S_).sem
set_option backward.proofsInPublic true in
def recvS : Tr → DmaSem sig
  | none => (cc0_scratch11 : DmaSems sig S_).sem
  | some j => (((cc0_scratch9 : DmaSems sig S8).slice (Rect.unit (s := S8) ![j.val] S1.size (by revert j; decide))).squeeze S_ squeezes_S1_S_).sem

/-- The semaphore of a cell. -/
def csem : Cell → SemLoc sig
  | none => .reg barS
  | some (false, j) => .dma (recvS j)
  | some (true, j) => .dma (sendS j)

theorem csem_injective : Function.Injective csem := by decide +kernel

def kcell (ck : Dev nD × Cell) : GSem nD τ sig := ((ck.1 : Thread nD τ), csem ck.2)

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

/-- The cell of a semaphore, if it has one. -/
def cellOf (s : SemLoc sig) : Option Cell := open Classical in Function.partialInv csem s
theorem cellOf_csem (k : Cell) : cellOf (csem k) = some k := Function.partialInv_left csem_injective k
theorem cellOf_none {s : SemLoc sig} (h : ∀ k, csem k ≠ s) : cellOf s = none := by
  unfold cellOf Function.partialInv; exact dif_neg fun ⟨k, hk⟩ => h k hk

/-- The credit of a chunk, and of the row sums. -/
def Nc : ℕ := (pSl 0).view.dmaCredit
def Ns : ℕ := spR.view.dmaCredit
theorem Nc_pos : 0 < Nc := View.dmaCredit_pos _ (by decide)
theorem Ns_pos : 0 < Ns := View.dmaCredit_pos _ (by decide)

/-- What a payment to a cell counts. -/
def amt : Cell → ℕ
  | none => 1
  | some (_, none) => Ns
  | some (_, some _) => Nc
theorem amt_pos (k : Cell) : 0 < amt k := by
  rcases k with _ | ⟨_, _ | _⟩
  · exact Nat.one_pos
  · exact Ns_pos
  · exact Nc_pos

/-! ## What the transfers carry -/

section Contents

/-- What departs in each transfer, of the chunks `f`. -/
def depart {α : Type} (f : Dev nD → Fin 8 → α) (c : Dev nD) : Fin 8 → α :=
  ![f c 0, f c 1, f c 2, f c 3, arrive f c 0, arrive f c 1, arrive f c 0, arrive f c 1]
/-- The direction transfer `j` goes. -/
def dirJ : Fin 8 → Fin 3 := ![0, 0, 0, 0, 1, 1, 2, 2]
theorem arrive_nb {α : Type} (f : Dev nD → Fin 8 → α) (c : Dev nD) (j : Fin 8) : arrive f (nb c (dirJ j)) j = depart f c j := by
  fin_cases j
  · show f (xn (xn c)) 0 = f c 0; rw [xn_xn]
  · show f (xn (xn c)) 1 = f c 1; rw [xn_xn]
  · show f (xn (xn c)) 2 = f c 2; rw [xn_xn]
  · show f (xn (xn c)) 3 = f c 3; rw [xn_xn]
  · show f (xn (yn (yn c))) 0 = f (xn c) 0; rw [yn_yn]
  · show f (xn (yn (yn c))) 1 = f (xn c) 1; rw [yn_yn]
  · show f (xn (zn (zn c))) 0 = f (xn c) 0; rw [zn_zn]
  · show f (xn (zn (zn c))) 1 = f (xn c) 1; rw [zn_zn]

variable (m : (ℓ : Loc nD τ sig) → Buf (Elt F) ℓ)

/-- The source of transfer `j` out of `c`, its share, and its contents. -/
def srcM (c : Dev nD) : Fin 8 → Memref sig .tc .vmem S1x256x512 .bf16 :=
  ![lSl 0, lSl 1, lSl 2, lSl 3, pSl (slot c 0), pSl (slot c 1), pSl (slot c 0), pSl (slot c 1)]
def srcQ : Fin 8 → PosShare TreeShare :=
  ![fullShare.right, fullShare.right, fullShare.right, fullShare.right, fullShare.right.left, fullShare.right.left, fullShare.right.right, fullShare.right.right]
def srcX (c : Dev nD) : Fin 8 → S1x256x512.Idx → Elt F .bf16 := depart (lg m) c

/-- What arrives is what was sent. -/
theorem rcv_nb (c : Dev nD) (j : Fin 8) : rcv m (nb c (dirJ j)) j = srcX m c j := arrive_nb (lg m) c j

/-- A landing slot, whatever it holds. -/
def free (c : Dev nD) (j : Fin 8) : sProp 𝕄 := iprop(∃ Y, owns (c : Thread nD τ) (pSl (slot c j)) fullShare Y)
def freeS (c : Dev nD) : sProp 𝕄 := iprop(∃ Y, owns (c : Thread nD τ) spR fullShare Y)

/-- What the neighbour in direction `d` hands `c` with its barrier signal: the places `c`'s transfers to it fill. -/
def barPay (c : Dev nD) : Fin 3 → sProp 𝕄
  | 0 => iprop(free (xn c) 0 ∗ free (xn c) 1 ∗ free (xn c) 2 ∗ free (xn c) 3 ∗ freeS (xn c))
  | 1 => iprop(free (yn c) 4 ∗ free (yn c) 5)
  | 2 => iprop(free (zn c) 6 ∗ free (zn c) 7)
def recvPay (c : Dev nD) : Tr → sProp 𝕄
  | none => owns (c : Thread nD τ) spR fullShare (sv m (xn c))
  | some j => owns (c : Thread nD τ) (pSl (slot c j)) fullShare (rcv m c j)
def sendPay (c : Dev nD) : Tr → sProp 𝕄
  | none => owns (c : Thread nD τ) sR fullShare (sv m c)
  | some j => owns (c : Thread nD τ) (srcM c j) (srcQ j) (srcX m c j)
def pay (c : Dev nD) : Cell → Fin 3 → sProp 𝕄
  | none, d => barPay c d
  | some (false, j), _ => recvPay m c j
  | some (true, j), _ => sendPay m c j

instance pay_storable (c : Dev nD) (k : Cell) (d : Fin 3) : BI.Storable (upEmb : UEmb _ 𝕄) (pay m c k d) := by
  rcases k with _ | ⟨_ | _, _ | j⟩
  · fin_cases d
    · show BI.Storable upEmb (barPay c 0); unfold barPay free freeS; infer_instance
    · show BI.Storable upEmb (barPay c 1); unfold barPay free; infer_instance
    · show BI.Storable upEmb (barPay c 2); unfold barPay free; infer_instance
  · unfold pay recvPay; infer_instance
  · unfold pay recvPay; infer_instance
  · unfold pay sendPay; infer_instance
  · unfold pay sendPay; infer_instance

/-! ## The schedule -/

/-- The duties of a cell: a barrier has one from each neighbour, a transfer's cell one. -/
def cduties : Cell → Finset (Fin 3)
  | none => Finset.univ
  | some _ => {0}

def sched : Rounds.Schedule (GSem nD τ sig) (Fin 3) 𝕄 where
  duties g r := if r = 0 ∧ g.1.2 = .tc then (cellOf g.2).elim ∅ cduties else ∅
  unitless _ := False
  amount g _ _ := (cellOf g.2).elim 1 amt
  payload g _ d := (cellOf g.2).elim iprop(emp) fun k => pay m g.1.1 k d
  amount_pos g _ _ _ := by
    cases h : cellOf g.2 with
    | none => exact Nat.one_pos
    | some k => exact amt_pos k

instance sched_storable (g : GSem nD τ sig) (r : ℕ) (d : Fin 3) : BI.Storable (upEmb : UEmb _ 𝕄) ((sched m).payload g r d) := by
  show BI.Storable upEmb ((cellOf g.2).elim iprop(emp) fun k => pay m g.1.1 k d)
  cases h : cellOf g.2 with
  | none => show BI.Storable upEmb iprop(emp); infer_instance
  | some k => exact pay_storable m g.1.1 k d

theorem duties_at (c : Dev nD) (k : Cell) : (sched m).duties (kcell (c, k)) 0 = cduties k := by
  dsimp only [sched]; refine (if_pos ⟨rfl, rfl⟩).trans ?_
  show (cellOf (csem k)).elim ∅ cduties = _; rw [cellOf_csem]; rfl
theorem duties_later (g : GSem nD τ sig) (r : ℕ) (hr : 1 ≤ r) : (sched m).duties g r = ∅ := by
  exact if_neg fun h => by omega
theorem amount_at (c : Dev nD) (k : Cell) (d : Fin 3) : (sched m).amount (kcell (c, k)) 0 d = amt k := by
  show (cellOf (csem k)).elim 1 amt = _; rw [cellOf_csem]; rfl
theorem payload_at (c : Dev nD) (k : Cell) (d : Fin 3) : (sched m).payload (kcell (c, k)) 0 d = pay m c k d := by
  show (cellOf (csem k)).elim iprop(emp) (fun k => pay m c k d) = _; rw [cellOf_csem]; rfl
theorem expect_at (c : Dev nD) (k : Cell) : (sched m).expect (kcell (c, k)) 0 = (cduties k).card * amt k := by
  unfold Schedule.expect Schedule.amountOf
  rw [duties_at, Finset.sum_congr rfl fun d _ => amount_at m c k d, Finset.sum_const, smul_eq_mul]
theorem rest_bar (c : Dev nD) : bigSep ((sched m).duties (kcell (c, none)) 0 \ ∅) (fun d => (sched m).payload (kcell (c, none)) 0 d)
    = iprop(barPay c 0 ∗ barPay c 1 ∗ barPay c 2) := by
  rw [Finset.sdiff_empty, duties_at, show cduties none = Finset.univ from rfl,
    bigSep_univ_eq_bigSepL [0, 1, 2] (by decide) (by decide), bigSepL_cons_cons, bigSepL_cons_cons, bigSepL_singleton, payload_at, payload_at, payload_at]
  rfl
theorem rest_tr (c : Dev nD) (b : Bool) (j : Tr) :
    bigSep ((sched m).duties (kcell (c, some (b, j))) 0 \ ∅) (fun d => (sched m).payload (kcell (c, some (b, j))) 0 d) = pay m c (some (b, j)) 0 := by
  rw [Finset.sdiff_empty, duties_at, show cduties (some (b, j)) = {0} from rfl, bigSep_singleton, payload_at]

end Contents

/-! ## What a device owes -/

/-- The twelve payments a device makes to its neighbours, in program order: the cell, and the direction. -/
def payK : Fin 12 → Cell :=
  ![none, none, none, some (false, some 0), some (false, some 1), some (false, none), some (false, some 2), some (false, some 3),
    some (false, some 4), some (false, some 6), some (false, some 5), some (false, some 7)]
def payD : Fin 12 → Fin 3 := ![0, 1, 2, 0, 0, 0, 0, 0, 1, 2, 1, 2]
/-- The duty a payment fulfils. -/
def payDuty : Fin 12 → Fin 3 := ![0, 1, 2, 0, 0, 0, 0, 0, 0, 0, 0, 0]

/-- Payment `i` of device `c`, as a debt. -/
def debt (c : Dev nD) (i : Fin 12) : CellTallies nD τ sig Unit := tallyAt (kcell (nb c (payD i), payK i)) () (amt (payK i))
/-- The debts from payment `n` on. -/
def owed (c : Dev nD) (n : ℕ) : CellTallies nD τ sig Unit := ∑ i ∈ Finset.univ.filter (fun i : Fin 12 => n ≤ i.val), debt c i

theorem owed_last (c : Dev nD) : owed c 12 = 0 := by
  unfold owed; rw [Finset.filter_false_of_mem (fun i _ => by omega), Finset.sum_empty]
theorem owed_step (c : Dev nD) (i : Fin 12) : owed c i.val = owed c (i.val + 1) + debt c i := by
  unfold owed
  rw [show Finset.univ.filter (fun j : Fin 12 => i.val ≤ j.val) = insert i (Finset.univ.filter (fun j : Fin 12 => i.val + 1 ≤ j.val)) from by
    ext j; simp only [Finset.mem_filter, Finset.mem_univ, true_and, Finset.mem_insert, Fin.ext_iff]; omega,
    Finset.sum_insert (by simp), add_comm]

theorem owed_pos {c : Dev nD} {n : ℕ} {g : GSem nD τ sig} {u : Unit} (h : 0 < owed c n g u) :
    ∃ i : Fin 12, n ≤ i.val ∧ g = kcell (nb c (payD i), payK i) := by
  unfold owed at h
  rw [Finset.sum_apply, Finsupp.finset_sum_apply] at h
  obtain ⟨i, hi, hp⟩ := Finset.exists_ne_zero_of_sum_ne_zero h.ne'
  refine ⟨i, (Finset.mem_filter.mp hi).2, ?_⟩
  unfold debt at hp
  rw [tallyAt_apply] at hp
  by_contra hn
  exact hp (if_neg fun h => hn h.1)

/-! ## Levels -/

/-- A cell's level: a barrier below the transfers, those of the `x` neighbour below the forwarded ones. -/
def clev : Cell → ℕ
  | none => 1
  | some (true, _) => 0
  | some (false, none) => 2
  | some (false, some j) => if j.val < 4 then 2 else 3
def slev (s : SemLoc sig) : ℕ := (cellOf s).elim 0 clev
def L (g : GSem nD τ sig) : Finset Unit := if g.1.2 = .tc then {()} else ∅
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl
theorem slev_csem (k : Cell) : slev (csem k) = clev k := by unfold slev; rw [cellOf_csem]; rfl
theorem slev_none {s : SemLoc sig} (h : ∀ k, csem k ≠ s) : slev s = 0 := by unfold slev; rw [cellOf_none h]; rfl
theorem clev_pay : ∀ i, 0 < clev (payK i) := by decide

omit [FloatOps F] in
/-- A wait below every debt left is allowed. -/
theorem mayWait (c : Dev nD) (sm : SemLoc sig) (n : ℕ) (h : ∀ i : Fin 12, n ≤ i.val → slev sm < clev (payK i)) :
    (levAts L lv : sProp 𝕄) ⊢ MayWait (c : Thread nD τ) sm () (owed c n) :=
  MayOwe.of_cut (L := L) (lev := lv) (slev sm)
    (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_rfl)
    (fun g u hg => by
      obtain ⟨i, hi, rfl⟩ := owed_pos hg
      show slev sm < slev (csem (payK i))
      rw [slev_csem]; exact h i hi)

end Cert.SoftmaxProof

end
-- ==== Proof.Moves.lean ====
/-
The steps of the kernel that take part in the protocol, and the local ones with the debts beside
them: a barrier signal and wait, a transfer, the wait for an arrival or a departure.
-/
module

public import proofs.«01_k».proof.Proof.Protocol

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)
variable (K : Dev nD × Cell → ℕ)

/-- What never changes: every cell's invariant, that every cell has reached its round, the levels. -/
def records : sProp 𝕄 :=
  iprop((bigSep Finset.univ fun ck : Dev nD × Cell => cellInv ER (sched m) (K ck) (kcell ck))
    ∗ (bigSep Finset.univ fun ck : Dev nD × Cell => reached ER (kcell ck) 0) ∗ levAts L lv)

instance records_persistent : BI.Persistent (records m K) := by unfold records; infer_instance

theorem records_inv (ck : Dev nD × Cell) : records m K ⊢ (cellInv ER (sched m) (K ck) (kcell ck) : sProp 𝕄) := by
  unfold records
  iintro ⟨H, -, -⟩
  iapply (show (bigSep Finset.univ fun ck : Dev nD × Cell => (cellInv ER (sched m) (K ck) (kcell ck) : sProp 𝕄)) ⊢ _ from bigSep_elim (Finset.mem_univ ck))
  iexact H
theorem records_reached (ck : Dev nD × Cell) : records m K ⊢ (reached ER (kcell ck) 0 : sProp 𝕄) := by
  unfold records
  iintro ⟨-, H, -⟩
  iapply (show (bigSep Finset.univ fun ck : Dev nD × Cell => (reached ER (kcell ck) 0 : sProp 𝕄)) ⊢ _ from bigSep_elim (Finset.mem_univ ck))
  iexact H
theorem records_mayWait (c : Dev nD) (sm : SemLoc sig) (n : ℕ) (h : ∀ i : Fin 12, n ≤ i.val → slev sm < clev (payK i)) :
    records m K ⊢ (MayWait (c : Thread nD τ) sm () (owed c n) : sProp 𝕄) := by
  unfold records
  iintro ⟨-, -, H⟩
  iapply (mayWait c sm n h); iexact H

/-- A device's debts from payment `n` on, whatever it has waited for. -/
def Owe (c : Dev nD) (n : ℕ) : sProp 𝕄 := iprop(∃ W, owes (c : Thread nD τ) (owed c n) W)
/-- The right to make payment `i`. -/
def payTok (c : Dev nD) (i : Fin 12) : sProp 𝕄 := dutyTok ER (kcell (nb c (payD i), payK i)) 0 (payDuty i)
/-- The right to start transfer `j`. -/
def sendTok (c : Dev nD) (j : Tr) : sProp 𝕄 := dutyTok ER (kcell (c, some (true, j))) 0 0
/-- A cell not yet waited for. -/
def pos (c : Dev nD) (k : Cell) : sProp 𝕄 := atPos ER (kcell (c, k)) 0 ∅ 0
/-- The credit of one payment into a cell. -/
def credit (c : Dev nD) (k : Cell) : sProp 𝕄 := cred (tallyAt (kcell (c, k)) () (amt k))

section Moves
variable (defs : Defs nD τ sig (Elt F) Λ₀) (𝒱 : Variants)
variable {α : Type} {Q : α → sProp (MT nD τ sig Unit (Elt F) ℕ UU ℕ)}

/-- A signal to a neighbour's barrier, with what it hands over. -/
theorem step_signal (c n : Dev nD) (i : Fin 12) (hi : payK i = none) (hd : payDuty i = payD i) (hn : n = nb c (payD i))
    {s : Sem sig} (hs : s = barS) {a : ℕ} (ha : a = 1) {k : PUnit → Prog (TpuEff nD τ sig (Elt F) Λ₀ .tc) α} :
    iprop(records m K ∗ Owe c i.val ∗ payTok c i ∗ barPay (nb c (payD i)) (payD i))
      ⊢ iprop((Owe c (i.val + 1) -∗ wp frame (wpE defs 𝒱 (c : Thread nD τ) none) Set.univ (k ⟨⟩) Q)
          -∗ wp frame (wpE defs 𝒱 (c : Thread nD τ) none) Set.univ (.op (.semSignal (n : Thread nD τ) s a) k) Q) := by
  subst hn hs ha
  unfold Owe payTok
  rw [hi, hd]
  iintro ⟨#HR, ⟨%W, HO⟩, HT, HP⟩ Hk
  iapply (Rounds.wp_signal 𝒱 ER (sched m) (c : Thread nD τ) none (dst := (nb c (payD i) : Thread nD τ)) (κ := K (nb c (payD i), none)) (r := 0)
      (d := payD i) (by show payD i ∈ (sched m).duties (kcell (nb c (payD i), none)) 0; rw [duties_at]; exact Finset.mem_univ _)
      (amount_at m (nb c (payD i)) none (payD i)) () (owed c (i.val + 1)) (O₀ := owed c i.val) (W := W)
      (by rw [owed_step]; unfold debt; rw [hi]; rfl)) $$ [HO HT HP]
  · isplitr; · iapply (records_inv m K (nb c (payD i), none)); iexact HR
    isplitl [HO]; · iexact HO
    isplitl [HT]; · iexact HT
    isplitl [HP]
    · iapply (show barPay (nb c (payD i)) (payD i) ⊢ (sched m).payload ((nb c (payD i) : Thread nD τ), SemLoc.reg barS) 0 (payD i) from
        BIBase.Entails.of_eq (payload_at m (nb c (payD i)) none (payD i)).symm)
      iexact HP
    · iapply (records_reached m K (nb c (payD i), none)); iexact HR
  iintro HO
  iapply Hk
  iexists W; iexact HO

/-- The wait for the three neighbours' signals: the places this device's transfers fill; its barrier is closed. -/
theorem step_barrier (c : Dev nD) {s : Sem sig} (hs : s = barS) {a : ℕ} (ha : a = 3) {k : PUnit → Prog (TpuEff nD τ sig (Elt F) Λ₀ .tc) α} :
    iprop(records m K ∗ Owe c 3 ∗ cred (tallyAt (kcell (c, none)) () 3) ∗ pos c none)
      ⊢ iprop((iprop(Owe c 3 ∗ semVal (kcell (c, none)) 0 ∗ barPay c 0 ∗ barPay c 1 ∗ barPay c 2)
            -∗ wp frame (wpE defs 𝒱 (c : Thread nD τ) none) Set.univ (k ⟨⟩) Q)
          -∗ wp frame (wpE defs 𝒱 (c : Thread nD τ) none) Set.univ (.op (.semWait s a) k) Q) := by
  subst hs ha
  unfold Owe pos
  iintro ⟨#HR, ⟨%W, HO⟩, HC, HA⟩ Hk
  iapply (Rounds.wp_wait_rest_token 𝒱 ER (sched m) (c : Thread nD τ) none (κ := K (c, none))
      (wpE_semWait_eq 𝒱 (c : Thread nD τ) none Set.univ) (Set.mem_univ _) () (O := owed c 3) (W := W) (R := 0) (m := 0) (T := ∅)
      (by show 0 + 3 = (sched m).expect (kcell (c, none)) 0; rw [expect_at]; rfl)) $$ [HO HC HA]
  · isplitr; · iapply (records_inv m K (c, none)); iexact HR
    isplitl [HC]; · iexact HC
    isplitl [HO]; · iexact HO
    isplitr
    · iapply (records_mayWait m K c (csem none) 3 (by rw [slev_csem]; decide)); iexact HR
    · iexact HA
  iintro ⟨HO, HA, -, HP⟩
  imod (Rounds.cell_close ER (sched m) (Set.mem_univ (K (c, none))) (fun h => h) (R := 0 + 1) (duties_later m (kcell (c, none)))) $$ [HA] with HZ
  · isplitr; · iapply (records_inv m K (c, none)); iexact HR
    iexact HA
  ihave HP := (show bigSep ((sched m).duties ((c : Thread nD τ), SemLoc.reg barS) 0 \ ∅) (fun d => (sched m).payload ((c : Thread nD τ), SemLoc.reg barS) 0 d) ⊢ _ from
    BIBase.Entails.of_eq (rest_bar m c)) $$ HP
  iapply Hk
  isplitl [HO]; · iexists _; iexact HO
  isplitl [HZ]; · iexact HZ
  iexact HP

/-- The wait for an arrival or a departure: what it hands over; its cell is closed. -/
theorem step_take (c : Dev nD) (b : Bool) (j : Tr) (n : ℕ) (hlev : ∀ i : Fin 12, n ≤ i.val → clev (some (b, j)) < clev (payK i))
    {sem : DmaSem sig} (hsm : (SemLoc.dma sem : SemLoc sig) = csem (some (b, j)))
    {sp sp' : Space} {s s' : Shape} {e e' : EltTy}
    {srcw : Memref sig .tc sp' s' e'} {dstw : Memref sig .tc sp s e} {hsrc : srcw.view.WordExact} {hdst : dstw.view.WordExact}
    (hN : dstw.view.dmaCredit = amt (some (b, j))) {k : PUnit → Prog (TpuEff nD τ sig (Elt F) Λ₀ .tc) α} :
    iprop(records m K ∗ Owe c n ∗ credit c (some (b, j)) ∗ pos c (some (b, j)))
      ⊢ iprop((iprop(Owe c n ∗ semVal (kcell (c, some (b, j))) 0 ∗ pay m c (some (b, j)) 0)
            -∗ wp frame (wpE defs 𝒱 (c : Thread nD τ) none) Set.univ (k ⟨⟩) Q)
          -∗ wp frame (wpE defs 𝒱 (c : Thread nD τ) none) Set.univ (.op (.waitDma2 sem srcw dstw hsrc hdst) k) Q) := by
  unfold Owe pos credit kcell
  rw [← hsm]
  iintro ⟨#HR, ⟨%W, HO⟩, HC, HA⟩ Hk
  have hcell : kcell (c, some (b, j)) = ((c : Thread nD τ), SemLoc.dma sem) := by unfold kcell; rw [← hsm]
  have hinv : records m K ⊢ (cellInv ER (sched m) (K (c, some (b, j))) ((c : Thread nD τ), SemLoc.dma sem) : sProp 𝕄) := by
    rw [← hcell]; exact records_inv m K (c, some (b, j))
  iapply (Rounds.wp_wait_rest_token 𝒱 ER (sched m) (c : Thread nD τ) none (κ := K (c, some (b, j)))
      (wpE_waitDma2_eq 𝒱 (c : Thread nD τ) none Set.univ) (Set.mem_univ _) () (O := owed c n) (W := W) (R := 0) (m := 0) (T := ∅)
      (by rw [hN, ← hcell, expect_at]; show 0 + _ = 1 * _; omega)) $$ [HO HC HA]
  · isplitr; · iapply hinv; iexact HR
    isplitl [HC]; · rw [hN]; iexact HC
    isplitl [HO]; · iexact HO
    isplitr
    · iapply (records_mayWait m K c (.dma sem) n (by rw [hsm, slev_csem]; exact hlev)); iexact HR
    · iexact HA
  iintro ⟨HO, HA, -, HP⟩
  imod (Rounds.cell_close ER (sched m) (Set.mem_univ (K (c, some (b, j)))) (fun h => h) (R := 0 + 1) (duties_later m _)) $$ [HA] with HZ
  · isplitr; · iapply hinv; iexact HR
    iexact HA
  ihave HP := (BIBase.Entails.of_eq (show _ = pay m c (some (b, j)) 0 from by rw [← hcell]; exact rest_tr m c b j)) $$ HP
  iapply Hk
  isplitl [HO]; · iexists _; iexact HO
  isplitl [HZ]; · iexact HZ
  iexact HP

/-- A transfer to a neighbour. -/
theorem step_send (c n : Dev nD) (j : Tr) (i : Fin 12) (hi : payK i = some (false, j)) (hd : payDuty i = 0) (hn : n = nb c (payD i))
    {sp sp' : Space} {s : Shape} {e : EltTy} {src src' : Memref sig .tc sp s e} {dst dst' : Memref sig .tc sp' s e} (hs : src = src') (hdd : dst = dst')
    {ss rs : DmaSem sig} (hss : ss = sendS j) (hrs : rs = recvS j)
    {hsc : (dst : Memref sig (Dev.tc n : Thread nD τ).2.kind sp' s e).view.ref.isScScratch = false}
    {hsrc : src.view.WordExact} {hdst : dst.view.WordExact} {hsem : DmaTarget.Typed sp (.dma rs) (.remote (Dev.tc n : Thread nD τ) dst (.dma ss) hsc)}
    {k : PUnit → Prog (TpuEff nD τ sig (Elt F) Λ₀ .tc) α} {q : PosShare TreeShare} {X : s.Idx → Elt F e}
    (hN : dst.view.amount (.dma rs) = amt (some (false, j))) (hA : amt (some (true, j)) = amt (some (false, j)))
    (hps : (owns (c : Thread nD τ) src' q X : sProp 𝕄) ⊢ sendPay m c j)
    (hpr : (owns (nb c (payD i) : Thread nD τ) dst' fullShare X : sProp 𝕄) ⊢ recvPay m (nb c (payD i)) j) :
    iprop(records m K ∗ Owe c i.val ∗ payTok c i ∗ sendTok c j ∗ owns (c : Thread nD τ) src' q X ∗ ∃ Y, owns (nb c (payD i) : Thread nD τ) dst' fullShare Y)
      ⊢ iprop((iprop(Owe c (i.val + 1) ∗ credit c (some (true, j)))
            -∗ wp frame (wpE defs 𝒱 (c : Thread nD τ) none) Set.univ (k ⟨⟩) Q)
          -∗ wp frame (wpE defs 𝒱 (c : Thread nD τ) none) Set.univ
            (.op (.enqueueDma src (.remote (Dev.tc n : Thread nD τ) dst (.dma ss) hsc) (.dma rs) hsrc hdst hsem) k) Q) := by
  subst hn hs hdd hss hrs
  unfold Owe payTok sendTok credit owns
  rw [hi, hd]
  iintro ⟨#HR, ⟨%W, HO⟩, HT, HS, ⟨%fs, %hfs, Hsrc⟩, ⟨%Y, %fd, -, Hdst⟩⟩ Hk
  subst hfs
  iapply (Rounds.wp_send_pointsTo 𝒱 ER (sched m) (c : Thread nD τ) none (κ₁ := K (c, some (true, j))) (κ₂ := K (nb c (payD i), some (false, j)))
    (r₁ := 0) (r₂ := 0) (d₁ := 0) (d₂ := 0) (fd := fd) (q := q) (fs := fs) (src := src) (c' := (Dev.tc (nb c (payD i)) : Thread nD τ)) (dst := dst)
    (by show 0 ∈ (sched m).duties (kcell (c, some (true, j))) 0; rw [duties_at]; exact Finset.mem_singleton_self _)
    (by show 0 ∈ (sched m).duties (kcell (nb c (payD i), some (false, j))) 0; rw [duties_at]; exact Finset.mem_singleton_self _)
    () () (amt (some (false, j))) hN ((amount_at m c (some (true, j)) 0).trans hA) (amount_at m (nb c (payD i)) (some (false, j)) 0)
    (owed c (i.val + 1)) (O₀ := owed c i.val) (by rw [owed_step]; unfold debt; rw [hi]; rfl) (W := W)
    (by
      show _ ⊢ (sched m).payload (kcell (c, some (true, j))) 0 0
      rw [payload_at]
      refine BIBase.Entails.trans ?_ hps
      unfold owns
      iintro H; iexists fs; isplitr; · (ipureintro; rfl)
      iexact H)
    (by
      show _ ⊢ (sched m).payload (kcell (nb c (payD i), some (false, j))) 0 0
      rw [payload_at]
      refine BIBase.Entails.trans ?_ hpr
      unfold owns
      iintro H; iexists _; isplitr
      rotate_left
      · iexact H
      · ipureintro; exact View.read_write_univ _ _)) $$ [HO HT HS Hsrc Hdst]
  · isplitr; · iapply (records_inv m K (c, some (true, j))); iexact HR
    isplitr; · iapply (records_inv m K (nb c (payD i), some (false, j))); iexact HR
    isplitl [Hsrc]; · iexact Hsrc
    isplitl [Hdst]; · iexact Hdst
    isplitl [HO]; · iexact HO
    isplitl [HS]; · iexact HS
    isplitr; · iapply (records_reached m K (c, some (true, j))); iexact HR
    isplitl [HT]; · iexact HT
    iapply (records_reached m K (nb c (payD i), some (false, j))); iexact HR
  iintro ⟨HC, HO⟩
  iapply Hk
  isplitl [HO]; · iexists W; iexact HO
  rw [hA]; iexact HC

end Moves

end Cert.SoftmaxProof

end
-- ==== Proof.Ops.lean ====
/-
The kernel's own operations, each as one step on what a device holds: fetching a window of the
weights, sending a chunk or the row sums, writing a piece of the result.
-/
module

public import proofs.«01_k».proof.Proof.Moves

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The local copies' semaphores -/

set_option backward.proofsInPublic true in
def wS (r : Fin 4) : DmaSem sig :=
  (((cc0_scratch6 : DmaSems sig S4).slice (Rect.unit (s := S4) ![r.val] S1.size (by revert r; decide))).squeeze S_ squeezes_S1_S_).sem
set_option backward.proofsInPublic true in
def oS (t : Fin 16) : DmaSem sig :=
  (((cc0_scratch7 : DmaSems sig S16).slice (Rect.unit (s := S16) ![t.val] S1.size (by revert t; decide))).squeeze S_ squeezes_S1_S_).sem

theorem wS_local : ∀ r k, csem k ≠ .dma (wS r) := by decide +kernel
theorem oS_local : ∀ t k, csem k ≠ .dma (oS t) := by decide +kernel

abbrev wCell (c : Dev nD) (r : Fin 4) : GSem nD τ sig := ((c : Thread nD τ), .dma (wS r))
abbrev oCell (c : Dev nD) (t : Fin 16) : GSem nD τ sig := ((c : Thread nD τ), .dma (oS t))

/-! ## Squeezed slots -/

abbrev wSq (r : Fin 4) : Memref sig .tc .vmem S512x1024 .f32 := (wSl r).squeeze S512x1024 squeezes_S1x512x1024_S512x1024
abbrev oSq (t : Fin 16) : Memref sig .tc .vmem S256x512 .f32 := (oSl t).squeeze S256x512 squeezes_S1x256x512_S256x512
abbrev cSq (M : Memref sig .tc .vmem S1x256x512 .bf16) : Memref sig .tc .vmem S256x512 .bf16 := M.squeeze S256x512 squeezes_S1x256x512_S256x512

/-- A slot of the landing buffer at the kernel's own offset. -/
theorem pSl_at {off : Fin S8x256x512.rank → ℕ} (inb : ∀ a, off a + S1x256x512.size a ≤ S8x256x512.size a) {k : Fin 8} (h : off = ![k.val, 0, 0]) :
    (pR.slice (Rect.unit off S1x256x512.size inb) (fun _ => rfl)).squeeze S256x512 squeezes_S1x256x512_S256x512 = cSq (pSl k) := by subst h; rfl
/-- A window of the weights at the kernel's own offset. -/
theorem WSl_at {off : Fin S512x4096.rank → ℕ} (inb : ∀ a, off a + S512x1024.size a ≤ S512x4096.size a) {q : Fin 4} (h : off = ![0, 1024 * q.val]) :
    WR.slice (Rect.unit off S512x1024.size inb) (fun _ => rfl) = WSl q := by subst h; rfl
/-- A chunk of the result at the kernel's own offset. -/
theorem outSl_at {off : Fin S256x8192.rank → ℕ} (inb : ∀ a, off a + S256x512.size a ≤ S256x8192.size a) {k : Fin 16} (h : off = ![0, 512 * k.val]) :
    outR.slice (Rect.unit off S256x512.size inb) (fun _ => rfl) = outSl k := by subst h; rfl

/-! Where each signal and each transfer goes. -/
theorem to1 (c : Dev nD) : (⟨k0_dev1 c, k0_dev1_lt c⟩ : Dev nD) = nb c 0 := by rw [dev1_eq]; rfl
theorem to2 (c : Dev nD) : (⟨k0_dev2 c, k0_dev2_lt c⟩ : Dev nD) = nb c 1 := by rw [dev2_eq]; rfl
theorem to3 (c : Dev nD) : (⟨k0_dev3 c, k0_dev3_lt c⟩ : Dev nD) = nb c 2 := by rw [dev3_eq]; rfl
/-! What the forwarded transfers read. -/
theorem from4 (c : Dev nD) : cSq (srcM c 4) = cSq (pSl (slot c 0)) := rfl
theorem from5 (c : Dev nD) : cSq (srcM c 5) = cSq (pSl (slot c 1)) := rfl
theorem from6 (c : Dev nD) : cSq (srcM c 6) = cSq (pSl (slot c 0)) := rfl
theorem from7 (c : Dev nD) : cSq (srcM c 7) = cSq (pSl (slot c 1)) := rfl

/-! The slot each transfer out of `c` lands in, as `c` names it. -/
theorem land0 : ∀ c, slot (nb c (dirJ 0)) 0 = slot c 0 := by decide +kernel
theorem land1 : ∀ c, slot (nb c (dirJ 1)) 1 = slot c 1 := by decide +kernel
theorem land2 : ∀ c, slot (nb c (dirJ 2)) 2 = slot c 2 := by decide +kernel
theorem land3 : ∀ c, slot (nb c (dirJ 3)) 3 = slot c 3 := by decide +kernel
theorem land4 : ∀ c, slot (nb c (dirJ 4)) 4 = slot c 0 := by decide +kernel
theorem land5 : ∀ c, slot (nb c (dirJ 5)) 5 = slot c 1 := by decide +kernel
theorem land6 : ∀ c, slot (nb c (dirJ 6)) 6 = slot c 0 := by decide +kernel
theorem land7 : ∀ c, slot (nb c (dirJ 7)) 7 = slot c 1 := by decide +kernel

/-! ## Slots -/

/-- Slots before they are filled, at any contents. -/
def lFree (c : Dev nD) (j : Fin 8) : sProp 𝕄 := iprop(∃ Y, owns (c : Thread nD τ) (lSl j) fullShare Y)
def wFree (c : Dev nD) (r : Fin 4) : sProp 𝕄 := iprop(∃ Y, owns (c : Thread nD τ) (wSl r) fullShare Y)
def oFree (c : Dev nD) (t : Fin 16) : sProp 𝕄 := iprop(∃ Y, owns (c : Thread nD τ) (oSl t) fullShare Y)
def outFree (c : Dev nD) (t : Fin 16) : sProp 𝕄 := iprop(∃ Y, owns (c : Thread nD τ) (outSl (wcol c t)) fullShare Y)

variable (m : (ℓ : Loc nD τ sig) → Buf (Elt F) ℓ) (K : Dev nD × Cell → ℕ)

/-- The weights' windows, in place and in their slots. -/
def Wwin (c : Dev nD) (r : Fin 4) : sProp 𝕄 := owns (c : Thread nD τ) (WSl (qd c r)) fullShare (Wx m c r)
def wFull (c : Dev nD) (r : Fin 4) : sProp 𝕄 := owns (c : Thread nD τ) (wSl r) fullShare (wX m c r)
/-- The input. -/
def xHeld (c : Dev nD) : sProp 𝕄 := owns (c : Thread nD τ) xR fullShare (xv m c)
/-- A chunk of logits, whole, and the share the device keeps while the chunk is being sent. -/
def lq : Fin 8 → PosShare TreeShare :=
  ![fullShare.left, fullShare.left, fullShare.left, fullShare.left, fullShare, fullShare, fullShare, fullShare]
def lFull (c : Dev nD) (j : Fin 8) : sProp 𝕄 := owns (c : Thread nD τ) (lSl j) fullShare (lg m c j)
def lKeep (c : Dev nD) (j : Fin 8) : sProp 𝕄 := owns (c : Thread nD τ) (lSl j) (lq j) (lg m c j)
/-- A chunk received, and the share the device keeps while it forwards the chunk. -/
def pq : Fin 8 → PosShare TreeShare :=
  ![fullShare.left, fullShare.left, fullShare, fullShare, fullShare, fullShare, fullShare, fullShare]
def pFull (c : Dev nD) (j : Fin 8) : sProp 𝕄 := owns (c : Thread nD τ) (pSl (slot c j)) fullShare (rcv m c j)
def pKeep (c : Dev nD) (j : Fin 8) : sProp 𝕄 := owns (c : Thread nD τ) (pSl (slot c j)) (pq j) (rcv m c j)
/-- The row sums, the device's own and the received. -/
def sHeld (c : Dev nD) : sProp 𝕄 := owns (c : Thread nD τ) sR fullShare (sv m c)
def spHeld (c : Dev nD) : sProp 𝕄 := owns (c : Thread nD τ) spR fullShare (sv m (xn c))
/-- A piece of the result, in its slot and in place. -/
def oFull (c : Dev nD) (t : Fin 16) : sProp 𝕄 := owns (c : Thread nD τ) (oSl t) fullShare (ov m c t)
def outFull (c : Dev nD) (t : Fin 16) : sProp 𝕄 :=
  owns (c : Thread nD τ) (outSl (wcol c t)) fullShare (sq squeezes_S1x256x512_S256x512 (ov m c t))

/-- The credit of a window of the weights, and of a piece of the result. -/
def Nw : ℕ := (wSq 0).view.dmaCredit
def No : ℕ := (outSl 0).view.dmaCredit
theorem Nw_pos : 0 < Nw := View.dmaCredit_pos _ (by decide)
theorem No_pos : 0 < No := View.dmaCredit_pos _ (by decide)

/-- What transfer `j` out of `c` reads, and what it fills. -/
def held (c : Dev nD) (j : Fin 8) : sProp 𝕄 := owns (c : Thread nD τ) (srcM c j) (srcQ j) (srcX m c j)
def dest (c : Dev nD) (j : Fin 8) : sProp 𝕄 := free (F := F) (nb c (dirJ j)) j

/-- A window of the weights on its way into its slot. -/
def wFl (c : Dev nD) (r : Fin 4) : sProp 𝕄 :=
  Flight EC (c : Thread nD τ) (.dma (wS r)) () Nw
    iprop(owns (c : Thread nD τ) (wSq r) fullShare (Wx m c r) ∗ owns (c : Thread nD τ) (WSl (qd c r)) fullShare (Wx m c r))
/-- A piece of the result on its way out. -/
def oFl (c : Dev nD) (t : Fin 16) : sProp 𝕄 :=
  Flight EC (c : Thread nD τ) (.dma (oS t)) () No
    iprop(owns (c : Thread nD τ) (outSl (wcol c t)) fullShare (sq squeezes_S1x256x512_S256x512 (ov m c t))
      ∗ owns (c : Thread nD τ) (oSq t) fullShare (sq squeezes_S1x256x512_S256x512 (ov m c t)))

/-- The kernel's parts on its own buffers. -/
abbrev onBufs.{v} {β : Type v} (f : (a0 : Memref sig .tc .vmem S256x512 .f32) → a0.IsWhole → (a1 : Memref sig .tc .hbm S512x4096 .f32) → a1.IsWhole → (a2 : Memref sig .tc .hbm S256x8192 .f32) → a2.IsWhole
    → (a3 : Memref sig .tc .vmem S4x512x1024 .f32) → a3.IsWhole → (a4 : Memref sig .tc .vmem S8x256x512 .bf16) → a4.IsWhole → (a5 : Memref sig .tc .vmem S8x256x512 .bf16) → a5.IsWhole
    → (a6 : Memref sig .tc .vmem S16x256x512 .f32) → a6.IsWhole → (a7 : Memref sig .tc .vmem S256x1 .f32) → a7.IsWhole → (a8 : Memref sig .tc .vmem S256x1 .f32) → a8.IsWhole
    → DmaSems sig S4 → DmaSems sig S16 → DmaSems sig S8 → DmaSems sig S8 → DmaSems sig S_ → DmaSems sig S_ → β) : β :=
  f xR (Memref.isWhole_whole _) WR (Memref.isWhole_whole _) outR (Memref.isWhole_whole _) wR (Memref.isWhole_whole _) lR (Memref.isWhole_whole _) pR (Memref.isWhole_whole _) oR (Memref.isWhole_whole _) sR (Memref.isWhole_whole _) spR (Memref.isWhole_whole _)
    cc0_scratch6 cc0_scratch7 cc0_scratch8 cc0_scratch9 cc0_scratch10 cc0_scratch11

section Ops
variable (defs : Defs nD τ sig (Elt F) Λ₀) (𝒱 : Variants)
variable {α : Type} {Q : α → sProp (MT nD τ sig Unit (Elt F) ℕ UU ℕ)}

theorem op_fetch (c : Dev nD) (r : Fin 4) {src : Memref sig .tc .hbm S512x1024 .f32} {dst : Memref sig .tc .vmem S512x1024 .f32}
    (hs : src = WSl (qd c r)) (hd : dst = wSq r) {sm : DmaSem sig} (hsm : sm = wS r)
    {hsrc : src.view.WordExact} {hdst : dst.view.WordExact} {hsem : (DmaTarget.here dst : DmaTarget nD τ sig .tc _ _ _).Typed .hbm (.dma sm)}
    {k : PUnit → Prog (TpuEff nD τ sig (Elt F) Λ₀ .tc) α} :
    Wwin m c r
      ⊢ iprop(wFree c r -∗ semVal (wCell c r) 0
        -∗ (wFl m c r -∗ wp frame (wpE defs 𝒱 (c : Thread nD τ) none) Set.univ (k ⟨⟩) Q)
        -∗ wp frame (wpE defs 𝒱 (c : Thread nD τ) none) Set.univ (.op (.enqueueDma src (.here dst) (.dma sm) hsrc hdst hsem) k) Q) := by
  subst hsm
  unfold Wwin wFree
  iintro HW ⟨%Y, Hw⟩ Hv Hk
  ihave Hw := (BIBase.Entails.of_eq (owns_squeeze c (wSl r) squeezes_S1x512x1024_S512x1024 fullShare Y).symm) $$ Hw
  iapply (step_copy defs 𝒱 c hs hd rfl Nw rfl Nw_pos) $$ [HW Hw Hv]
  · isplitl [HW]; · iexact HW
    isplitl [Hw]; · iexact Hw
    iexact Hv
  iintro H
  iapply Hk
  unfold wFl
  iexact H

theorem op_fetched (c : Dev nD) (r : Fin 4) (n : ℕ) {sem : DmaSem sig} (hsm : sem = wS r) {sp' : Space} {s' : Shape} {e' : EltTy}
    {srcw : Memref sig .tc sp' s' e'} {dstw : Memref sig .tc .vmem S512x1024 .f32} {hsrc : srcw.view.WordExact} {hdst : dstw.view.WordExact}
    (hd : dstw = wSq r) {k : PUnit → Prog (TpuEff nD τ sig (Elt F) Λ₀ .tc) α} :
    records m K ⊢ iprop(Owe c n -∗ wFl m c r
        -∗ (iprop(Owe c n ∗ semVal (wCell c r) 0 ∗ wFull m c r ∗ Wwin m c r)
          -∗ wp frame (wpE defs 𝒱 (c : Thread nD τ) none) Set.univ (k ⟨⟩) Q)
        -∗ wp frame (wpE defs 𝒱 (c : Thread nD τ) none) Set.univ (.op (.waitDma2 sem srcw dstw hsrc hdst) k) Q) := by
  unfold Owe wFl wFull Wwin
  iintro #HR ⟨%W, HO⟩ HF Hk
  iapply (step_wait defs 𝒱 c hsm (by rw [hd])) $$ [HO HF]
  · isplitl [HF]; · iexact HF
    isplitl [HO]; · iexact HO
    iapply (records_mayWait m K c (.dma (wS r)) n (fun i _ => by rw [slev_none (wS_local r)]; exact clev_pay i)); iexact HR
  iintro ⟨⟨Hw, HW⟩, Hv, HO⟩
  iapply Hk
  isplitl [HO]; · iexists _; iexact HO
  isplitl [Hv]; · iexact Hv
  isplitl [Hw]
  · iapply (show owns (c : Thread nD τ) (wSq r) fullShare (Wx m c r) ⊢ (owns (c : Thread nD τ) (wSl r) fullShare (wX m c r) : sProp 𝕄) from
      BIBase.Entails.of_eq (by rw [← owns_squeeze c (wSl r) squeezes_S1x512x1024_S512x1024]; exact congrArg _ (sq_unsq _ (Wx m c r)).symm))
    iexact Hw
  · iexact HW

theorem op_put (c : Dev nD) (t : Fin 16) {src : Memref sig .tc .vmem S256x512 .f32} {dst : Memref sig .tc .hbm S256x512 .f32}
    (hs : src = oSq t) (hd : dst = outSl (wcol c t)) {sm : DmaSem sig} (hsm : sm = oS t)
    {hsrc : src.view.WordExact} {hdst : dst.view.WordExact} {hsem : (DmaTarget.here dst : DmaTarget nD τ sig .tc _ _ _).Typed .vmem (.dma sm)}
    {k : PUnit → Prog (TpuEff nD τ sig (Elt F) Λ₀ .tc) α} :
    oFull m c t
      ⊢ iprop(outFree c t -∗ semVal (oCell c t) 0
        -∗ (oFl m c t -∗ wp frame (wpE defs 𝒱 (c : Thread nD τ) none) Set.univ (k ⟨⟩) Q)
        -∗ wp frame (wpE defs 𝒱 (c : Thread nD τ) none) Set.univ (.op (.enqueueDma src (.here dst) (.dma sm) hsrc hdst hsem) k) Q) := by
  subst hsm
  unfold oFull outFree
  iintro Ho ⟨%Y, Hout⟩ Hv Hk
  ihave Ho := (BIBase.Entails.of_eq (owns_squeeze c (oSl t) squeezes_S1x256x512_S256x512 fullShare (ov m c t)).symm) $$ Ho
  iapply (step_copy defs 𝒱 c hs hd rfl No rfl No_pos) $$ [Ho Hout Hv]
  · isplitl [Ho]; · iexact Ho
    isplitl [Hout]; · iexact Hout
    iexact Hv
  iintro H
  iapply Hk
  unfold oFl
  iexact H

theorem op_putDone (c : Dev nD) (t : Fin 16) (n : ℕ) {sem : DmaSem sig} (hsm : sem = oS t) {sp' : Space} {s' : Shape} {e' : EltTy}
    {srcw : Memref sig .tc sp' s' e'} {dstw : Memref sig .tc .hbm S256x512 .f32} {hsrc : srcw.view.WordExact} {hdst : dstw.view.WordExact}
    (hd : dstw = outSl (wcol c t)) {k : PUnit → Prog (TpuEff nD τ sig (Elt F) Λ₀ .tc) α} :
    records m K ⊢ iprop(Owe c n -∗ oFl m c t
        -∗ (iprop(Owe c n ∗ semVal (oCell c t) 0 ∗ oFull m c t ∗ outFull m c t)
          -∗ wp frame (wpE defs 𝒱 (c : Thread nD τ) none) Set.univ (k ⟨⟩) Q)
        -∗ wp frame (wpE defs 𝒱 (c : Thread nD τ) none) Set.univ (.op (.waitDma2 sem srcw dstw hsrc hdst) k) Q) := by
  unfold Owe oFl oFull outFull
  iintro #HR ⟨%W, HO⟩ HF Hk
  iapply (step_wait defs 𝒱 c hsm (by rw [hd])) $$ [HO HF]
  · isplitl [HF]; · iexact HF
    isplitl [HO]; · iexact HO
    iapply (records_mayWait m K c (.dma (oS t)) n (fun i _ => by rw [slev_none (oS_local t)]; exact clev_pay i)); iexact HR
  iintro ⟨⟨Hout, Ho⟩, Hv, HO⟩
  iapply Hk
  isplitl [HO]; · iexists _; iexact HO
  isplitl [Hv]; · iexact Hv
  isplitl [Ho]
  · iapply (BIBase.Entails.of_eq (owns_squeeze c (oSl t) squeezes_S1x256x512_S256x512 fullShare (ov m c t))); iexact Ho
  · iexact Hout

theorem op_signal (c n : Dev nD) (i : Fin 12) (x y : ℕ) (hx : i.val = x) (hy : x + 1 = y) (d : Fin 3) (hdd : payD i = d) (hi : payK i = none) (hd : payDuty i = payD i) (hn : n = nb c d)
    {a : ℕ} (ha : a = 1) {k : PUnit → Prog (TpuEff nD τ sig (Elt F) Λ₀ .tc) α} :
    records m K ⊢ iprop(Owe c x -∗ payTok c i -∗ barPay (nb c d) d
        -∗ (Owe c y -∗ wp frame (wpE defs 𝒱 (c : Thread nD τ) none) Set.univ (k ⟨⟩) Q)
        -∗ wp frame (wpE defs 𝒱 (c : Thread nD τ) none) Set.univ (.op (.semSignal (n : Thread nD τ) barS a) k) Q) := by
  subst hx; subst hy; subst hdd
  iintro #HR HO HT HP Hk
  iapply (step_signal m K defs 𝒱 c n i hi hd hn rfl ha) $$ [HO HT HP]
  · isplitr; · iexact HR
    isplitl [HO]; · iexact HO
    isplitl [HT]; · iexact HT
    iexact HP
  iexact Hk

theorem op_barrier (c : Dev nD) {a : ℕ} (ha : a = 3) {k : PUnit → Prog (TpuEff nD τ sig (Elt F) Λ₀ .tc) α} :
    records m K ⊢ iprop(Owe c 3 -∗ cred (tallyAt (kcell (c, none)) () 3) -∗ pos c none
        -∗ (iprop(Owe c 3 ∗ semVal (kcell (c, none)) 0 ∗ barPay c 0 ∗ barPay c 1 ∗ barPay c 2)
            -∗ wp frame (wpE defs 𝒱 (c : Thread nD τ) none) Set.univ (k ⟨⟩) Q)
        -∗ wp frame (wpE defs 𝒱 (c : Thread nD τ) none) Set.univ (.op (.semWait barS a) k) Q) := by
  iintro #HR HO HC HA Hk
  iapply (step_barrier m K defs 𝒱 c rfl ha) $$ [HO HC HA]
  · isplitr; · iexact HR
    isplitl [HO]; · iexact HO
    isplitl [HC]; · iexact HC
    iexact HA
  iexact Hk

theorem op_send (c n : Dev nD) (j : Fin 8) (i : Fin 12) (a b : ℕ) (ha : i.val = a) (hb : a + 1 = b) (hi : payK i = some (false, some j)) (hd : payDuty i = 0) (hj : payD i = dirJ j) (hn : n = nb c (dirJ j))
    {src dst : Memref sig .tc .vmem S256x512 .bf16} {p : Fin 8} (hp : slot (nb c (dirJ j)) j = p) (hs : src = cSq (srcM c j)) (hdd : dst = cSq (pSl p))
    {ss rs : DmaSem sig} (hss : ss = sendS (some j)) (hrs : rs = recvS (some j))
    {hsc : (dst : Memref sig (Dev.tc n : Thread nD τ).2.kind _ _ _).view.ref.isScScratch = false}
    {hsrc : src.view.WordExact} {hdst : dst.view.WordExact} {hsem : DmaTarget.Typed .vmem (.dma rs) (.remote (Dev.tc n : Thread nD τ) dst (.dma ss) hsc)}
    {k : PUnit → Prog (TpuEff nD τ sig (Elt F) Λ₀ .tc) α} :
    records m K ⊢ iprop(Owe c a -∗ payTok c i -∗ sendTok c (some j) -∗ held m c j -∗ dest c j
        -∗ (iprop(Owe c b ∗ credit c (some (true, some j))) -∗ wp frame (wpE defs 𝒱 (c : Thread nD τ) none) Set.univ (k ⟨⟩) Q)
        -∗ wp frame (wpE defs 𝒱 (c : Thread nD τ) none) Set.univ
            (.op (.enqueueDma src (.remote (Dev.tc n : Thread nD τ) dst (.dma ss) hsc) (.dma rs) hsrc hdst hsem) k) Q) := by
  subst ha; subst hb
  unfold held dest free
  iintro #HR HO HT HS Hsrc ⟨%Y, Hdst⟩ Hk
  have hN : dst.view.amount (.dma rs) = amt (some (false, some j)) := by rw [hdd]; rfl
  ihave Hsrc := (BIBase.Entails.of_eq (owns_squeeze c (srcM c j) squeezes_S1x256x512_S256x512 (srcQ j) (srcX m c j)).symm) $$ Hsrc
  ihave Hdst := (BIBase.Entails.of_eq (owns_squeeze (nb c (dirJ j)) (pSl (slot (nb c (dirJ j)) j)) squeezes_S1x256x512_S256x512 fullShare Y).symm) $$ Hdst
  iapply (step_send m K defs 𝒱 c n (some j) i hi hd (hn.trans (by rw [hj])) hs (hdd.trans (by rw [← hp])) hss hrs hN rfl
    (BIBase.Entails.of_eq (owns_squeeze c (srcM c j) squeezes_S1x256x512_S256x512 (srcQ j) (srcX m c j)))
    (by
      rw [hj]
      refine BIBase.Entails.of_eq ?_
      show (owns (nb c (dirJ j) : Thread nD τ) (cSq (pSl (slot (nb c (dirJ j)) j))) fullShare _ : sProp 𝕄) = owns (nb c (dirJ j) : Thread nD τ) (pSl (slot (nb c (dirJ j)) j)) fullShare (rcv m (nb c (dirJ j)) j)
      rw [rcv_nb]
      exact owns_squeeze (nb c (dirJ j)) (pSl (slot (nb c (dirJ j)) j)) squeezes_S1x256x512_S256x512 fullShare (srcX m c j))) $$ [HO HT HS Hsrc Hdst]
  · isplitr; · iexact HR
    isplitl [HO]; · iexact HO
    isplitl [HT]; · iexact HT
    isplitl [HS]; · iexact HS
    isplitl [Hsrc]; · iexact Hsrc
    iexists _
    rw [hj]
    iexact Hdst
  iexact Hk

theorem op_sendSum (c n : Dev nD) (hn : n = xn c)
    {ss rs : DmaSem sig} (hss : ss = sendS none) (hrs : rs = recvS none)
    {hsc : (spR : Memref sig (Dev.tc n : Thread nD τ).2.kind _ _ _).view.ref.isScScratch = false}
    {hsrc : sR.view.WordExact} {hdst : spR.view.WordExact} {hsem : DmaTarget.Typed .vmem (.dma rs) (.remote (Dev.tc n : Thread nD τ) spR (.dma ss) hsc)}
    {k : PUnit → Prog (TpuEff nD τ sig (Elt F) Λ₀ .tc) α} :
    records m K ⊢ iprop(Owe c 5 -∗ payTok c 5 -∗ sendTok c none -∗ sHeld m c -∗ freeS (xn c)
        -∗ (iprop(Owe c 6 ∗ credit c (some (true, none))) -∗ wp frame (wpE defs 𝒱 (c : Thread nD τ) none) Set.univ (k ⟨⟩) Q)
        -∗ wp frame (wpE defs 𝒱 (c : Thread nD τ) none) Set.univ
            (.op (.enqueueDma sR (.remote (Dev.tc n : Thread nD τ) spR (.dma ss) hsc) (.dma rs) hsrc hdst hsem) k) Q) := by
  unfold freeS sHeld
  iintro #HR HO HT HS Hsrc Hdst Hk
  iapply (step_send m K defs 𝒱 c n none 5 rfl rfl hn rfl rfl hss hrs rfl rfl (q := fullShare) (X := sv m c) (BIBase.Entails.of_eq rfl)
    (by
      refine BIBase.Entails.of_eq ?_
      show (owns (xn c : Thread nD τ) spR fullShare (sv m c) : sProp 𝕄) = owns (xn c : Thread nD τ) spR fullShare (sv m (xn (xn c)))
      rw [xn_xn])) $$ [HO HT HS Hsrc Hdst]
  · isplitr; · iexact HR
    isplitl [HO]; · iexact HO
    isplitl [HT]; · iexact HT
    isplitl [HS]; · iexact HS
    isplitl [Hsrc]; · iexact Hsrc
    iexact Hdst
  iexact Hk

theorem op_take (c : Dev nD) (b : Bool) (j : Tr) (n : ℕ) (hlev : ∀ i : Fin 12, n ≤ i.val → clev (some (b, j)) < clev (payK i))
    {sem : DmaSem sig} (hsm : (SemLoc.dma sem : SemLoc sig) = csem (some (b, j)))
    {sp sp' : Space} {s s' : Shape} {e e' : EltTy}
    {srcw : Memref sig .tc sp' s' e'} {dstw : Memref sig .tc sp s e} {hsrc : srcw.view.WordExact} {hdst : dstw.view.WordExact}
    (hN : dstw.view.dmaCredit = amt (some (b, j))) {k : PUnit → Prog (TpuEff nD τ sig (Elt F) Λ₀ .tc) α} :
    records m K ⊢ iprop(Owe c n -∗ credit c (some (b, j)) -∗ pos c (some (b, j))
        -∗ (iprop(Owe c n ∗ semVal (kcell (c, some (b, j))) 0 ∗ pay m c (some (b, j)) 0)
            -∗ wp frame (wpE defs 𝒱 (c : Thread nD τ) none) Set.univ (k ⟨⟩) Q)
        -∗ wp frame (wpE defs 𝒱 (c : Thread nD τ) none) Set.univ (.op (.waitDma2 sem srcw dstw hsrc hdst) k) Q) := by
  iintro #HR HO HC HA Hk
  iapply (step_take m K defs 𝒱 c b j n hlev hsm hN) $$ [HO HC HA]
  · isplitr; · iexact HR
    isplitl [HO]; · iexact HO
    isplitl [HC]; · iexact HC
    iexact HA
  iexact Hk

end Ops

end Cert.SoftmaxProof

end
-- ==== Proof.State.lean ====
/-
What a device holds between the kernel's operations, slot by slot, and the loads and stores on it.
-/
module

public import proofs.«01_k».proof.Proof.Ops

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)

/-! ## Splitting for the transfers, and joining after them -/

/-! The contents stand as any family of chunks `f`: what they are is no matter here. -/
theorem share_l0 (f : Dev nD → Fin 8 → Vec F S1x256x512 .bf16) (c : Dev nD) : (owns (c : Thread nD τ) (lSl 0) fullShare (f c 0) : sProp 𝕄)
    ⊢ iprop(owns (c : Thread nD τ) (lSl 0) (lq 0) (f c 0) ∗ owns (c : Thread nD τ) (srcM c 0) (srcQ 0) (depart f c 0)) := owns_share c (lSl 0) fullShare (f c 0)
theorem unshare_l0 (f : Dev nD → Fin 8 → Vec F S1x256x512 .bf16) (c : Dev nD) : iprop(owns (c : Thread nD τ) (lSl 0) (lq 0) (f c 0) ∗ owns (c : Thread nD τ) (srcM c 0) (srcQ 0) (depart f c 0))
    ⊢ (owns (c : Thread nD τ) (lSl 0) fullShare (f c 0) : sProp 𝕄) := owns_unshare c (lSl 0) fullShare (f c 0)
theorem l_split0 (c : Dev nD) : lFull m c 0 ⊢ iprop(lKeep m c 0 ∗ held m c 0) := share_l0 (lg m) c
theorem l_join0 (c : Dev nD) : iprop(lKeep m c 0 ∗ held m c 0) ⊢ lFull m c 0 := unshare_l0 (lg m) c
theorem share_l1 (f : Dev nD → Fin 8 → Vec F S1x256x512 .bf16) (c : Dev nD) : (owns (c : Thread nD τ) (lSl 1) fullShare (f c 1) : sProp 𝕄)
    ⊢ iprop(owns (c : Thread nD τ) (lSl 1) (lq 1) (f c 1) ∗ owns (c : Thread nD τ) (srcM c 1) (srcQ 1) (depart f c 1)) := owns_share c (lSl 1) fullShare (f c 1)
theorem unshare_l1 (f : Dev nD → Fin 8 → Vec F S1x256x512 .bf16) (c : Dev nD) : iprop(owns (c : Thread nD τ) (lSl 1) (lq 1) (f c 1) ∗ owns (c : Thread nD τ) (srcM c 1) (srcQ 1) (depart f c 1))
    ⊢ (owns (c : Thread nD τ) (lSl 1) fullShare (f c 1) : sProp 𝕄) := owns_unshare c (lSl 1) fullShare (f c 1)
theorem l_split1 (c : Dev nD) : lFull m c 1 ⊢ iprop(lKeep m c 1 ∗ held m c 1) := share_l1 (lg m) c
theorem l_join1 (c : Dev nD) : iprop(lKeep m c 1 ∗ held m c 1) ⊢ lFull m c 1 := unshare_l1 (lg m) c
theorem share_l2 (f : Dev nD → Fin 8 → Vec F S1x256x512 .bf16) (c : Dev nD) : (owns (c : Thread nD τ) (lSl 2) fullShare (f c 2) : sProp 𝕄)
    ⊢ iprop(owns (c : Thread nD τ) (lSl 2) (lq 2) (f c 2) ∗ owns (c : Thread nD τ) (srcM c 2) (srcQ 2) (depart f c 2)) := owns_share c (lSl 2) fullShare (f c 2)
theorem unshare_l2 (f : Dev nD → Fin 8 → Vec F S1x256x512 .bf16) (c : Dev nD) : iprop(owns (c : Thread nD τ) (lSl 2) (lq 2) (f c 2) ∗ owns (c : Thread nD τ) (srcM c 2) (srcQ 2) (depart f c 2))
    ⊢ (owns (c : Thread nD τ) (lSl 2) fullShare (f c 2) : sProp 𝕄) := owns_unshare c (lSl 2) fullShare (f c 2)
theorem l_split2 (c : Dev nD) : lFull m c 2 ⊢ iprop(lKeep m c 2 ∗ held m c 2) := share_l2 (lg m) c
theorem l_join2 (c : Dev nD) : iprop(lKeep m c 2 ∗ held m c 2) ⊢ lFull m c 2 := unshare_l2 (lg m) c
theorem share_l3 (f : Dev nD → Fin 8 → Vec F S1x256x512 .bf16) (c : Dev nD) : (owns (c : Thread nD τ) (lSl 3) fullShare (f c 3) : sProp 𝕄)
    ⊢ iprop(owns (c : Thread nD τ) (lSl 3) (lq 3) (f c 3) ∗ owns (c : Thread nD τ) (srcM c 3) (srcQ 3) (depart f c 3)) := owns_share c (lSl 3) fullShare (f c 3)
theorem unshare_l3 (f : Dev nD → Fin 8 → Vec F S1x256x512 .bf16) (c : Dev nD) : iprop(owns (c : Thread nD τ) (lSl 3) (lq 3) (f c 3) ∗ owns (c : Thread nD τ) (srcM c 3) (srcQ 3) (depart f c 3))
    ⊢ (owns (c : Thread nD τ) (lSl 3) fullShare (f c 3) : sProp 𝕄) := owns_unshare c (lSl 3) fullShare (f c 3)
theorem l_split3 (c : Dev nD) : lFull m c 3 ⊢ iprop(lKeep m c 3 ∗ held m c 3) := share_l3 (lg m) c
theorem l_join3 (c : Dev nD) : iprop(lKeep m c 3 ∗ held m c 3) ⊢ lFull m c 3 := unshare_l3 (lg m) c

/-! The chunks that are not sent are kept whole. -/
theorem kept_l4 (f : Dev nD → Fin 8 → Vec F S1x256x512 .bf16) (c : Dev nD) : (owns (c : Thread nD τ) (lSl 4) fullShare (f c 4) : sProp 𝕄) ⊢ owns (c : Thread nD τ) (lSl 4) (lq 4) (f c 4) := BIBase.Entails.of_eq rfl
theorem l_kept4 (c : Dev nD) : lFull m c 4 ⊢ lKeep m c 4 := kept_l4 (lg m) c
theorem kept_l5 (f : Dev nD → Fin 8 → Vec F S1x256x512 .bf16) (c : Dev nD) : (owns (c : Thread nD τ) (lSl 5) fullShare (f c 5) : sProp 𝕄) ⊢ owns (c : Thread nD τ) (lSl 5) (lq 5) (f c 5) := BIBase.Entails.of_eq rfl
theorem l_kept5 (c : Dev nD) : lFull m c 5 ⊢ lKeep m c 5 := kept_l5 (lg m) c
theorem kept_l6 (f : Dev nD → Fin 8 → Vec F S1x256x512 .bf16) (c : Dev nD) : (owns (c : Thread nD τ) (lSl 6) fullShare (f c 6) : sProp 𝕄) ⊢ owns (c : Thread nD τ) (lSl 6) (lq 6) (f c 6) := BIBase.Entails.of_eq rfl
theorem l_kept6 (c : Dev nD) : lFull m c 6 ⊢ lKeep m c 6 := kept_l6 (lg m) c
theorem kept_l7 (f : Dev nD → Fin 8 → Vec F S1x256x512 .bf16) (c : Dev nD) : (owns (c : Thread nD τ) (lSl 7) fullShare (f c 7) : sProp 𝕄) ⊢ owns (c : Thread nD τ) (lSl 7) (lq 7) (f c 7) := BIBase.Entails.of_eq rfl
theorem l_kept7 (c : Dev nD) : lFull m c 7 ⊢ lKeep m c 7 := kept_l7 (lg m) c

/-- A view held whole is held at the share kept and the two shares sent. -/
theorem owns_three (c : Dev nD) {sp : Space} {s : Shape} {e : EltTy} (M : Memref sig .tc sp s e) (X : s.Idx → Elt F e) :
    (owns (c : Thread nD τ) M fullShare X : sProp 𝕄)
      ⊢ iprop(owns (c : Thread nD τ) M fullShare.left X ∗ owns (c : Thread nD τ) M fullShare.right.left X ∗ owns (c : Thread nD τ) M fullShare.right.right X) := by
  iintro H
  ihave H := (owns_share c M fullShare X) $$ H
  icases H with ⟨H1, H2⟩
  ihave H2 := (owns_share c M fullShare.right X) $$ H2
  isplitl [H1]; · iexact H1
  iexact H2
theorem owns_unthree (c : Dev nD) {sp : Space} {s : Shape} {e : EltTy} (M : Memref sig .tc sp s e) (X : s.Idx → Elt F e) :
    iprop(owns (c : Thread nD τ) M fullShare.left X ∗ owns (c : Thread nD τ) M fullShare.right.left X ∗ owns (c : Thread nD τ) M fullShare.right.right X)
      ⊢ (owns (c : Thread nD τ) M fullShare X : sProp 𝕄) := by
  iintro ⟨H1, H2⟩
  ihave H2 := (owns_unshare c M fullShare.right X) $$ H2
  iapply (owns_unshare c M fullShare X)
  isplitl [H1]; · iexact H1
  iexact H2
theorem share_p0 (f : Dev nD → Fin 8 → Vec F S1x256x512 .bf16) (c : Dev nD) : (owns (c : Thread nD τ) (pSl (slot c 0)) fullShare (arrive f c 0) : sProp 𝕄)
    ⊢ iprop(owns (c : Thread nD τ) (pSl (slot c 0)) (pq 0) (arrive f c 0) ∗ owns (c : Thread nD τ) (srcM c 4) (srcQ 4) (depart f c 4) ∗ owns (c : Thread nD τ) (srcM c 6) (srcQ 6) (depart f c 6)) := owns_three c (pSl (slot c 0)) (arrive f c 0)
theorem unshare_p0 (f : Dev nD → Fin 8 → Vec F S1x256x512 .bf16) (c : Dev nD) : iprop(owns (c : Thread nD τ) (pSl (slot c 0)) (pq 0) (arrive f c 0) ∗ owns (c : Thread nD τ) (srcM c 4) (srcQ 4) (depart f c 4) ∗ owns (c : Thread nD τ) (srcM c 6) (srcQ 6) (depart f c 6))
    ⊢ (owns (c : Thread nD τ) (pSl (slot c 0)) fullShare (arrive f c 0) : sProp 𝕄) := owns_unthree c (pSl (slot c 0)) (arrive f c 0)
theorem p_split0 (c : Dev nD) : pFull m c 0 ⊢ iprop(pKeep m c 0 ∗ held m c 4 ∗ held m c 6) := share_p0 (lg m) c
theorem p_join0 (c : Dev nD) : iprop(pKeep m c 0 ∗ held m c 4 ∗ held m c 6) ⊢ pFull m c 0 := unshare_p0 (lg m) c
theorem share_p1 (f : Dev nD → Fin 8 → Vec F S1x256x512 .bf16) (c : Dev nD) : (owns (c : Thread nD τ) (pSl (slot c 1)) fullShare (arrive f c 1) : sProp 𝕄)
    ⊢ iprop(owns (c : Thread nD τ) (pSl (slot c 1)) (pq 1) (arrive f c 1) ∗ owns (c : Thread nD τ) (srcM c 5) (srcQ 5) (depart f c 5) ∗ owns (c : Thread nD τ) (srcM c 7) (srcQ 7) (depart f c 7)) := owns_three c (pSl (slot c 1)) (arrive f c 1)
theorem unshare_p1 (f : Dev nD → Fin 8 → Vec F S1x256x512 .bf16) (c : Dev nD) : iprop(owns (c : Thread nD τ) (pSl (slot c 1)) (pq 1) (arrive f c 1) ∗ owns (c : Thread nD τ) (srcM c 5) (srcQ 5) (depart f c 5) ∗ owns (c : Thread nD τ) (srcM c 7) (srcQ 7) (depart f c 7))
    ⊢ (owns (c : Thread nD τ) (pSl (slot c 1)) fullShare (arrive f c 1) : sProp 𝕄) := owns_unthree c (pSl (slot c 1)) (arrive f c 1)
theorem p_split1 (c : Dev nD) : pFull m c 1 ⊢ iprop(pKeep m c 1 ∗ held m c 5 ∗ held m c 7) := share_p1 (lg m) c
theorem p_join1 (c : Dev nD) : iprop(pKeep m c 1 ∗ held m c 5 ∗ held m c 7) ⊢ pFull m c 1 := unshare_p1 (lg m) c

/-! The chunks that are not forwarded are kept whole. -/
theorem kept_p2 (f : Dev nD → Fin 8 → Vec F S1x256x512 .bf16) (c : Dev nD) : (owns (c : Thread nD τ) (pSl (slot c 2)) fullShare (arrive f c 2) : sProp 𝕄) ⊢ owns (c : Thread nD τ) (pSl (slot c 2)) (pq 2) (arrive f c 2) := BIBase.Entails.of_eq rfl
theorem p_kept2 (c : Dev nD) : pFull m c 2 ⊢ pKeep m c 2 := kept_p2 (lg m) c
theorem kept_p3 (f : Dev nD → Fin 8 → Vec F S1x256x512 .bf16) (c : Dev nD) : (owns (c : Thread nD τ) (pSl (slot c 3)) fullShare (arrive f c 3) : sProp 𝕄) ⊢ owns (c : Thread nD τ) (pSl (slot c 3)) (pq 3) (arrive f c 3) := BIBase.Entails.of_eq rfl
theorem p_kept3 (c : Dev nD) : pFull m c 3 ⊢ pKeep m c 3 := kept_p3 (lg m) c
theorem kept_p4 (f : Dev nD → Fin 8 → Vec F S1x256x512 .bf16) (c : Dev nD) : (owns (c : Thread nD τ) (pSl (slot c 4)) fullShare (arrive f c 4) : sProp 𝕄) ⊢ owns (c : Thread nD τ) (pSl (slot c 4)) (pq 4) (arrive f c 4) := BIBase.Entails.of_eq rfl
theorem p_kept4 (c : Dev nD) : pFull m c 4 ⊢ pKeep m c 4 := kept_p4 (lg m) c
theorem kept_p5 (f : Dev nD → Fin 8 → Vec F S1x256x512 .bf16) (c : Dev nD) : (owns (c : Thread nD τ) (pSl (slot c 5)) fullShare (arrive f c 5) : sProp 𝕄) ⊢ owns (c : Thread nD τ) (pSl (slot c 5)) (pq 5) (arrive f c 5) := BIBase.Entails.of_eq rfl
theorem p_kept5 (c : Dev nD) : pFull m c 5 ⊢ pKeep m c 5 := kept_p5 (lg m) c
theorem kept_p6 (f : Dev nD → Fin 8 → Vec F S1x256x512 .bf16) (c : Dev nD) : (owns (c : Thread nD τ) (pSl (slot c 6)) fullShare (arrive f c 6) : sProp 𝕄) ⊢ owns (c : Thread nD τ) (pSl (slot c 6)) (pq 6) (arrive f c 6) := BIBase.Entails.of_eq rfl
theorem p_kept6 (c : Dev nD) : pFull m c 6 ⊢ pKeep m c 6 := kept_p6 (lg m) c
theorem kept_p7 (f : Dev nD → Fin 8 → Vec F S1x256x512 .bf16) (c : Dev nD) : (owns (c : Thread nD τ) (pSl (slot c 7)) fullShare (arrive f c 7) : sProp 𝕄) ⊢ owns (c : Thread nD τ) (pSl (slot c 7)) (pq 7) (arrive f c 7) := BIBase.Entails.of_eq rfl
theorem p_kept7 (c : Dev nD) : pFull m c 7 ⊢ pKeep m c 7 := kept_p7 (lg m) c

/-- The barrier's three payments, as the places the transfers fill. -/
theorem bar_dest0 (c : Dev nD) : (barPay c 0 : sProp 𝕄) ⊢ iprop(dest c 0 ∗ dest c 1 ∗ dest c 2 ∗ dest c 3 ∗ freeS (xn c)) := BIBase.Entails.of_eq rfl
theorem bar_dest1 (c : Dev nD) : (barPay c 1 : sProp 𝕄) ⊢ iprop(dest c 4 ∗ dest c 5) := BIBase.Entails.of_eq rfl
theorem bar_dest2 (c : Dev nD) : (barPay c 2 : sProp 𝕄) ⊢ iprop(dest c 6 ∗ dest c 7) := BIBase.Entails.of_eq rfl

/-! ## A whole buffer as one slot -/

theorem owns_slice_full (c : Dev nD) {sp : Space} {s : Shape} {e : EltTy} (M : Memref sig .tc sp s e) (q : PosShare TreeShare)
    {off : Fin s.rank → ℕ} (inb : ∀ a, off a + s.size a ≤ s.size a) (X : s.Idx → Elt F e) :
    (owns (c : Thread nD τ) (M.slice (Rect.unit off s.size inb) (fun _ => rfl)) q X : sProp 𝕄) = owns (c : Thread nD τ) M q X := by
  have hemb : ∀ i : s.Idx, (Rect.unit off s.size inb).emb i = i := fun i => by
    funext a
    have := inb a
    apply Fin.ext
    show off a + 1 * (i a).val = (i a).val
    omega
  have hset : (M.slice (Rect.unit off s.size inb) (fun _ => rfl)).view.set = M.view.set := by
    show (M.view.slice _).set = _
    rw [View.set_slice]
    refine congrArg (Finset.map M.view.emb) (Finset.eq_univ_iff_forall.mpr fun i => ?_)
    rw [Rect.mem_set_unit]
    intro a
    have := inb a
    have := (i a).isLt
    omega
  have hrd : ∀ f, (M.slice (Rect.unit off s.size inb) (fun _ => rfl)).view.read (Elt F) f = M.view.read (Elt F) f := fun f => by
    funext i
    show M.view.read (Elt F) f ((Rect.unit off s.size inb).emb i) = _
    rw [hemb]
  unfold owns
  rw [hset]
  exact congrArg _ (funext fun f => by rw [hrd])

section Ops
variable (defs : Defs nD τ sig (Elt F) Λ₀) (𝒱 : Variants)
variable {α : Type} {Q : α → sProp (MT nD τ sig Unit (Elt F) ℕ UU ℕ)}

/-- A load of a whole buffer. -/
theorem step_load_full (c : Dev nD) {cs : CoreSpace} {s : Shape} {e : EltTy} {M : Memref sig .tc cs s e} {off : Fin s.rank → ℕ} {inb : ∀ a, off a + s.size a ≤ s.size a}
    {hl : M.view.LoadsAt (Rect.unit off s.size inb).toLoadRect} {q : PosShare TreeShare} {X : s.Idx → Elt F e}
    {k : (s.Idx → Elt F e) → Prog (TpuEff nD τ sig (Elt F) Λ₀ .tc) α} :
    (owns (c : Thread nD τ) M q X : sProp 𝕄)
      ⊢ iprop((owns (c : Thread nD τ) M q X -∗ wp frame (wpE defs 𝒱 (c : Thread nD τ) none) Set.univ (k X) Q)
          -∗ wp frame (wpE defs 𝒱 (c : Thread nD τ) none) Set.univ (.op (.load M (Rect.unit off s.size inb).toLoadRect hl) k) Q) := by
  rw [← owns_slice_full c M q inb X]
  exact step_load defs 𝒱 c rfl

/-- A store over a whole buffer, after the load of what it overwrites. -/
theorem step_fill_full (c : Dev nD) {cs : CoreSpace} {s : Shape} {e : EltTy} {M : Memref sig .tc cs s e} {off : Fin s.rank → ℕ} {inb : ∀ a, off a + s.size a ≤ s.size a}
    {hl : M.view.LoadsAt (Rect.unit off s.size inb).toLoadRect} {w : s.Idx → Elt F e}
    {hx : (M.access (Rect.unit off s.size inb)).Stores Finset.univ} {hm : Finset.univ = Finset.univ ∨ ∀ a, (Rect.unit off s.size inb).stride a = 1}
    {k : PUnit → Prog (TpuEff nD τ sig (Elt F) Λ₀ .tc) α} :
    (iprop(∃ Y, owns (c : Thread nD τ) M fullShare Y) : sProp 𝕄)
      ⊢ iprop((owns (c : Thread nD τ) M fullShare w -∗ wp frame (wpE defs 𝒱 (c : Thread nD τ) none) Set.univ (k ⟨⟩) Q)
          -∗ wp frame (wpE defs 𝒱 (c : Thread nD τ) none) Set.univ
            (.op (.load M (Rect.unit off s.size inb).toLoadRect hl) fun _ => .op (.store M (Rect.unit off s.size inb) w Finset.univ hx hm) k) Q) := by
  iintro ⟨%Y, H⟩ Hk
  iapply (step_load_full defs 𝒱 c) $$ H
  iintro H
  ihave H := (BIBase.Entails.of_eq (owns_slice_full c M fullShare inb Y).symm) $$ H
  iapply (step_store defs 𝒱 c rfl) $$ H
  iintro H
  iapply Hk
  iapply (BIBase.Entails.of_eq (owns_slice_full c M fullShare inb w))
  iexact H

/-- The same of a slot. -/
theorem step_fill (c : Dev nD) {cs : CoreSpace} {s : Shape} {e : EltTy} {M : Memref sig .tc cs s e} {off size : Fin s.rank → ℕ} {inb : ∀ a, off a + size a ≤ s.size a}
    {hl : M.view.LoadsAt (Rect.unit off size inb).toLoadRect} {w : (Rect.unit off size inb).shape.Idx → Elt F e}
    {hx : (M.access (Rect.unit off size inb)).Stores Finset.univ} {hm : Finset.univ = Finset.univ ∨ ∀ a, (Rect.unit off size inb).stride a = 1}
    {k : PUnit → Prog (TpuEff nD τ sig (Elt F) Λ₀ .tc) α} :
    (iprop(∃ Y, owns (c : Thread nD τ) (M.slice (Rect.unit off size inb) (fun _ => rfl)) fullShare Y) : sProp 𝕄)
      ⊢ iprop((owns (c : Thread nD τ) (M.slice (Rect.unit off size inb) (fun _ => rfl)) fullShare w
            -∗ wp frame (wpE defs 𝒱 (c : Thread nD τ) none) Set.univ (k ⟨⟩) Q)
          -∗ wp frame (wpE defs 𝒱 (c : Thread nD τ) none) Set.univ
            (.op (.load M (Rect.unit off size inb).toLoadRect hl) fun _ => .op (.store M (Rect.unit off size inb) w Finset.univ hx hm) k) Q) := by
  iintro ⟨%Y, H⟩ Hk
  iapply (step_load defs 𝒱 c rfl) $$ H
  iintro H
  iapply (step_store defs 𝒱 c rfl) $$ H
  iintro H
  iapply Hk
  iexact H

theorem op_loadX (c : Dev nD) {inb} {hl : (xR).view.LoadsAt (Rect.unit (s := S256x512) ![0, 0] S256x512.size inb).toLoadRect}
    {k : (S256x512.Idx → Elt F .f32) → Prog (TpuEff nD τ sig (Elt F) Λ₀ .tc) α} :
    xHeld m c ⊢ iprop((xHeld m c -∗ wp frame (wpE defs 𝒱 (c : Thread nD τ) none) Set.univ (k (xv m c)) Q)
      -∗ wp frame (wpE defs 𝒱 (c : Thread nD τ) none) Set.univ (.op (.load xR (Rect.unit (s := S256x512) ![0, 0] S256x512.size inb).toLoadRect hl) k) Q) :=
  step_load_full defs 𝒱 c

theorem op_loadSp (c : Dev nD) {inb} {hl : (spR).view.LoadsAt (Rect.unit (s := S256x1) ![0, 0] S256x1.size inb).toLoadRect}
    {k : (S256x1.Idx → Elt F .f32) → Prog (TpuEff nD τ sig (Elt F) Λ₀ .tc) α} :
    spHeld m c ⊢ iprop((spHeld m c -∗ wp frame (wpE defs 𝒱 (c : Thread nD τ) none) Set.univ (k (sv m (xn c))) Q)
      -∗ wp frame (wpE defs 𝒱 (c : Thread nD τ) none) Set.univ (.op (.load spR (Rect.unit (s := S256x1) ![0, 0] S256x1.size inb).toLoadRect hl) k) Q) :=
  step_load_full defs 𝒱 c

theorem op_loadW (c : Dev nD) (r : Fin 4) {off : Fin 3 → ℕ} (h : off = ![r.val, 0, 0]) {inb} {hl : (wR).view.LoadsAt (Rect.unit (s := S4x512x1024) off S1x512x1024.size inb).toLoadRect}
    {k : (S1x512x1024.Idx → Elt F .f32) → Prog (TpuEff nD τ sig (Elt F) Λ₀ .tc) α} :
    wFull m c r ⊢ iprop((wFull m c r -∗ wp frame (wpE defs 𝒱 (c : Thread nD τ) none) Set.univ (k (wX m c r)) Q)
      -∗ wp frame (wpE defs 𝒱 (c : Thread nD τ) none) Set.univ (.op (.load wR (Rect.unit (s := S4x512x1024) off S1x512x1024.size inb).toLoadRect hl) k) Q) :=
  step_load defs 𝒱 c h

theorem op_loadL (c : Dev nD) (j : Fin 8) {off : Fin 3 → ℕ} (h : off = ![j.val, 0, 0]) {inb} {hl : (lR).view.LoadsAt (Rect.unit (s := S8x256x512) off S1x256x512.size inb).toLoadRect}
    {k : (S1x256x512.Idx → Elt F .bf16) → Prog (TpuEff nD τ sig (Elt F) Λ₀ .tc) α} :
    lKeep m c j ⊢ iprop((lKeep m c j -∗ wp frame (wpE defs 𝒱 (c : Thread nD τ) none) Set.univ (k (lg m c j)) Q)
      -∗ wp frame (wpE defs 𝒱 (c : Thread nD τ) none) Set.univ (.op (.load lR (Rect.unit (s := S8x256x512) off S1x256x512.size inb).toLoadRect hl) k) Q) :=
  step_load defs 𝒱 c h

theorem op_loadP (c : Dev nD) (j : Fin 8) {off : Fin 3 → ℕ} (h : off = ![(slot c j).val, 0, 0]) {inb} {hl : (pR).view.LoadsAt (Rect.unit (s := S8x256x512) off S1x256x512.size inb).toLoadRect}
    {k : (S1x256x512.Idx → Elt F .bf16) → Prog (TpuEff nD τ sig (Elt F) Λ₀ .tc) α} :
    pKeep m c j ⊢ iprop((pKeep m c j -∗ wp frame (wpE defs 𝒱 (c : Thread nD τ) none) Set.univ (k (rcv m c j)) Q)
      -∗ wp frame (wpE defs 𝒱 (c : Thread nD τ) none) Set.univ (.op (.load pR (Rect.unit (s := S8x256x512) off S1x256x512.size inb).toLoadRect hl) k) Q) :=
  step_load defs 𝒱 c h

theorem op_fillL (c : Dev nD) (j : Fin 8) {off off' : Fin 3 → ℕ} (h : off = ![j.val, 0, 0]) (h' : off' = ![j.val, 0, 0]) {inb inb'}
    {hl : (lR).view.LoadsAt (Rect.unit (s := S8x256x512) off S1x256x512.size inb).toLoadRect}
    {w : S1x256x512.Idx → Elt F .bf16} (hw : w = lg m c j)
    {hx : (lR.access (Rect.unit (s := S8x256x512) off' S1x256x512.size inb')).Stores Finset.univ}
    {hm : Finset.univ = Finset.univ ∨ ∀ a, (Rect.unit (s := S8x256x512) off' S1x256x512.size inb').stride a = 1}
    {k : PUnit → Prog (TpuEff nD τ sig (Elt F) Λ₀ .tc) α} :
    lFree c j ⊢ iprop((lFull m c j -∗ wp frame (wpE defs 𝒱 (c : Thread nD τ) none) Set.univ (k ⟨⟩) Q)
      -∗ wp frame (wpE defs 𝒱 (c : Thread nD τ) none) Set.univ (.op (.load lR (Rect.unit (s := S8x256x512) off S1x256x512.size inb).toLoadRect hl)
          fun _ => .op (.store lR (Rect.unit (s := S8x256x512) off' S1x256x512.size inb') w Finset.univ hx hm) k) Q) := by
  subst hw; subst h; subst h'
  exact step_fill defs 𝒱 c (M := lR) (off := ![j.val, 0, 0]) (size := S1x256x512.size) (inb := inb) (hl := hl) (w := lg m c j) (hx := hx) (hm := hm)

theorem op_fillO (c : Dev nD) (t : Fin 16) {off off' : Fin 3 → ℕ} (h : off = ![t.val, 0, 0]) (h' : off' = ![t.val, 0, 0]) {inb inb'}
    {hl : (oR).view.LoadsAt (Rect.unit (s := S16x256x512) off S1x256x512.size inb).toLoadRect}
    {w : S1x256x512.Idx → Elt F .f32} (hw : w = ov m c t)
    {hx : (oR.access (Rect.unit (s := S16x256x512) off' S1x256x512.size inb')).Stores Finset.univ}
    {hm : Finset.univ = Finset.univ ∨ ∀ a, (Rect.unit (s := S16x256x512) off' S1x256x512.size inb').stride a = 1}
    {k : PUnit → Prog (TpuEff nD τ sig (Elt F) Λ₀ .tc) α} :
    oFree c t ⊢ iprop((oFull m c t -∗ wp frame (wpE defs 𝒱 (c : Thread nD τ) none) Set.univ (k ⟨⟩) Q)
      -∗ wp frame (wpE defs 𝒱 (c : Thread nD τ) none) Set.univ (.op (.load oR (Rect.unit (s := S16x256x512) off S1x256x512.size inb).toLoadRect hl)
          fun _ => .op (.store oR (Rect.unit (s := S16x256x512) off' S1x256x512.size inb') w Finset.univ hx hm) k) Q) := by
  subst hw; subst h; subst h'
  exact step_fill defs 𝒱 c (M := oR) (off := ![t.val, 0, 0]) (size := S1x256x512.size) (inb := inb) (hl := hl) (w := ov m c t) (hx := hx) (hm := hm)

theorem op_fillS (c : Dev nD) {inb inb'} {hl : (sR).view.LoadsAt (Rect.unit (s := S256x1) ![0, 0] S256x1.size inb).toLoadRect}
    {w : S256x1.Idx → Elt F .f32} (hw : w = sv m c)
    {hx : (sR.access (Rect.unit (s := S256x1) ![0, 0] S256x1.size inb')).Stores Finset.univ}
    {hm : Finset.univ = Finset.univ ∨ ∀ a, (Rect.unit (s := S256x1) ![0, 0] S256x1.size inb').stride a = 1}
    {k : PUnit → Prog (TpuEff nD τ sig (Elt F) Λ₀ .tc) α} :
    (iprop(∃ Y, owns (c : Thread nD τ) sR fullShare Y) : sProp 𝕄) ⊢ iprop((sHeld m c -∗ wp frame (wpE defs 𝒱 (c : Thread nD τ) none) Set.univ (k ⟨⟩) Q)
      -∗ wp frame (wpE defs 𝒱 (c : Thread nD τ) none) Set.univ (.op (.load sR (Rect.unit (s := S256x1) ![0, 0] S256x1.size inb).toLoadRect hl)
          fun _ => .op (.store sR (Rect.unit (s := S256x1) ![0, 0] S256x1.size inb') w Finset.univ hx hm) k) Q) := by
  subst hw
  exact step_fill_full defs 𝒱 c

end Ops

end Cert.SoftmaxProof

end
-- ==== Proof.Compute.lean ====
/-
The first half of the kernel, part by part as printed: fetching the weights, the barrier, the eight
chunks of logits and their row sums, and every transfer to the neighbours.
-/
module

public import proofs.«01_k».proof.Proof.State

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)
variable (defs : Defs nD τ sig (Elt F) Λ₀) (𝒱 : Variants)

/-- A program run on device `c`. -/
abbrev WP {α : Type} (c : Dev nD) (p : Prog (TpuEff nD τ sig (Elt F) Λ₀ .tc) α) (Q : α → sProp (MT nD τ sig Unit (Elt F) ℕ UU ℕ)) : sProp 𝕄 :=
  wp frame (wpE defs 𝒱 (c : Thread nD τ) none) Set.univ p Q

/-- A program at its end. -/
theorem done {α : Type} (c : Dev nD) {a : α} {Q : α → sProp (MT nD τ sig Unit (Elt F) ℕ UU ℕ)} : Q a ⊢ WP defs 𝒱 c (.ret a) Q := by
  unfold WP
  rw [wp_ret]
  iintro H
  imodintro
  iexact H

/-! ## The waits, by what they bring -/

section Waits
variable {α : Type} {Q : α → sProp (MT nD τ sig Unit (Elt F) ℕ UU ℕ)}

/-- Nothing a device still owes ranks at or below the arrivals it waits for. -/
theorem lev_send (j : Tr) (i : Fin 12) (h : 12 ≤ i.val) : clev (some (true, j)) < clev (payK i) := absurd i.isLt (by omega)
theorem lev_recv (j : Tr) (i : Fin 12) (h : 12 ≤ i.val) : clev (some (false, j)) < clev (payK i) := absurd i.isLt (by omega)
theorem lev_recv0 : ∀ i : Fin 12, 8 ≤ i.val → clev (some (false, some 0)) < clev (payK i) := by decide +kernel
theorem lev_recv1 : ∀ i : Fin 12, 10 ≤ i.val → clev (some (false, some 1)) < clev (payK i) := by decide +kernel

theorem op_recv (c : Dev nD) (j : Fin 8) (n : ℕ) (hlev : ∀ i : Fin 12, n ≤ i.val → clev (some (false, some j)) < clev (payK i))
    {sem : DmaSem sig} (hsm : sem = recvS (some j)) {sp sp' : Space} {s s' : Shape} {e e' : EltTy}
    {srcw : Memref sig .tc sp' s' e'} {dstw : Memref sig .tc sp s e} {hsrc : srcw.view.WordExact} {hdst : dstw.view.WordExact}
    {M : Memref sig .tc sp s e} (hd : dstw = M) (hN : M.view.dmaCredit = Nc) {k : PUnit → Prog (TpuEff nD τ sig (Elt F) Λ₀ .tc) α} :
    records m K ⊢ iprop(Owe c n -∗ credit c (some (false, some j)) -∗ pos c (some (false, some j))
        -∗ (iprop(Owe c n ∗ semVal (kcell (c, some (false, some j))) 0 ∗ pFull m c j) -∗ WP defs 𝒱 c (k ⟨⟩) Q)
        -∗ WP defs 𝒱 c (.op (.waitDma2 sem srcw dstw hsrc hdst) k) Q) :=
  op_take m K defs 𝒱 c false (some j) n hlev (congrArg _ hsm) (hd ▸ hN)

theorem op_recvSum (c : Dev nD) {sem : DmaSem sig} (hsm : sem = recvS none) {sp sp' : Space} {s s' : Shape} {e e' : EltTy}
    {srcw : Memref sig .tc sp' s' e'} {dstw : Memref sig .tc sp s e} {hsrc : srcw.view.WordExact} {hdst : dstw.view.WordExact}
    {M : Memref sig .tc sp s e} (hd : dstw = M) (hN : M.view.dmaCredit = Ns) {k : PUnit → Prog (TpuEff nD τ sig (Elt F) Λ₀ .tc) α} :
    records m K ⊢ iprop(Owe c 12 -∗ credit c (some (false, none)) -∗ pos c (some (false, none))
        -∗ (iprop(Owe c 12 ∗ semVal (kcell (c, some (false, none))) 0 ∗ spHeld m c) -∗ WP defs 𝒱 c (k ⟨⟩) Q)
        -∗ WP defs 𝒱 c (.op (.waitDma2 sem srcw dstw hsrc hdst) k) Q) :=
  op_take m K defs 𝒱 c false none 12 (lev_recv none) (congrArg _ hsm) (hd ▸ hN)

theorem op_sent (c : Dev nD) (j : Fin 8) {sem : DmaSem sig} (hsm : sem = sendS (some j)) {sp sp' : Space} {s s' : Shape} {e e' : EltTy}
    {srcw : Memref sig .tc sp' s' e'} {dstw : Memref sig .tc sp s e} {hsrc : srcw.view.WordExact} {hdst : dstw.view.WordExact}
    {M : Memref sig .tc sp s e} (hd : dstw = M) (hN : M.view.dmaCredit = Nc) {k : PUnit → Prog (TpuEff nD τ sig (Elt F) Λ₀ .tc) α} :
    records m K ⊢ iprop(Owe c 12 -∗ credit c (some (true, some j)) -∗ pos c (some (true, some j))
        -∗ (iprop(Owe c 12 ∗ semVal (kcell (c, some (true, some j))) 0 ∗ held m c j) -∗ WP defs 𝒱 c (k ⟨⟩) Q)
        -∗ WP defs 𝒱 c (.op (.waitDma2 sem srcw dstw hsrc hdst) k) Q) :=
  op_take m K defs 𝒱 c true (some j) 12 (lev_send (some j)) (congrArg _ hsm) (hd ▸ hN)

theorem op_sentSum (c : Dev nD) {sem : DmaSem sig} (hsm : sem = sendS none) {sp sp' : Space} {s s' : Shape} {e e' : EltTy}
    {srcw : Memref sig .tc sp' s' e'} {dstw : Memref sig .tc sp s e} {hsrc : srcw.view.WordExact} {hdst : dstw.view.WordExact}
    {M : Memref sig .tc sp s e} (hd : dstw = M) (hN : M.view.dmaCredit = Ns) {k : PUnit → Prog (TpuEff nD τ sig (Elt F) Λ₀ .tc) α} :
    records m K ⊢ iprop(Owe c 12 -∗ credit c (some (true, none)) -∗ pos c (some (true, none))
        -∗ (iprop(Owe c 12 ∗ semVal (kcell (c, some (true, none))) 0 ∗ sHeld m c) -∗ WP defs 𝒱 c (k ⟨⟩) Q)
        -∗ WP defs 𝒱 c (.op (.waitDma2 sem srcw dstw hsrc hdst) k) Q) :=
  op_take m K defs 𝒱 c true none 12 (lev_send none) (congrArg _ hsm) (hd ▸ hN)

end Waits

/-! ## The parts -/

theorem part1 (c : Dev nD) {Q : _ → sProp (MT nD τ sig Unit (Elt F) ℕ UU ℕ)} :
    Wwin m c 0 ⊢ iprop(wFree c 0 -∗ semVal (wCell c 0) 0 -∗ (∀ r, iprop(⌜r.1 = c⌝ ∗ wFl m c 0) -∗ Q r)
      -∗ WP defs 𝒱 c (onBufs (k0_part1 (F := F))) Q) := by
  iintro HW Hw Hv Hk
  rw [k0_part1_eq_skeleton]
  unfold k0_part1_skel
  simp only [Prog.lift, Prog.bind_op, Prog.bind_ret, Prog.pure_eq_ret, wp_deviceId]
  iapply (op_fetch m defs 𝒱 c 0 (WSl_at _ (off1_eq c)) rfl rfl) $$ HW Hw Hv
  iintro HF
  iapply (done defs 𝒱 c)
  iapply Hk
  isplitr; · ipureintro; rfl
  iexact HF

theorem part2 (c : Dev nD) (v2 v5 v8 v19 v20 : BitVec 32) {Q : _ → sProp (MT nD τ sig Unit (Elt F) ℕ UU ℕ)} :
    records m K ⊢ iprop(Wwin m c 1 -∗ wFree c 1 -∗ semVal (wCell c 1) 0 -∗ Wwin m c 2 -∗ wFree c 2 -∗ semVal (wCell c 2) 0
      -∗ Wwin m c 3 -∗ wFree c 3 -∗ semVal (wCell c 3) 0 -∗ Owe c 0 -∗ payTok c 0 -∗ barPay (nb c 0) 0 -∗ payTok c 1 -∗ barPay (nb c 1) 1
      -∗ (∀ r, iprop(⌜r.1 = SemArray.scalar (sig.barrier 0 rfl)⌝ ∗ Owe c 2 ∗ wFl m c 1 ∗ wFl m c 2 ∗ wFl m c 3) -∗ Q r)
      -∗ WP defs 𝒱 c (onBufs (k0_part2 (F := F)) c v2 v5 v8 v19 v20) Q) := by
  iintro #HR HW1 Hw1 Hv1 HW2 Hw2 Hv2 HW3 Hw3 Hv3 HO HT0 HP0 HT1 HP1 Hk
  rw [k0_part2_eq_skeleton]
  unfold k0_part2_skel
  simp only [semSignalWord, Prog.lift, Prog.bind_op, Prog.bind_ret, Prog.pure_eq_ret]
  iapply (op_fetch m defs 𝒱 c 1 (WSl_at _ (off2_eq c)) rfl rfl) $$ HW1 Hw1 Hv1
  iintro H1
  iapply (op_fetch m defs 𝒱 c 2 (WSl_at _ (off3_eq c)) rfl rfl) $$ HW2 Hw2 Hv2
  iintro H2
  iapply (op_fetch m defs 𝒱 c 3 (WSl_at _ (off4_eq c)) rfl rfl) $$ HW3 Hw3 Hv3
  iintro H3
  iapply (op_signal m K defs 𝒱 c _ 0 0 1 rfl rfl 0 (by decide) (by decide) (by decide) (to1 c) (by decide)) $$ HR HO HT0 HP0
  iintro HO
  iapply (op_signal m K defs 𝒱 c _ 1 1 2 rfl rfl 1 (by decide) (by decide) (by decide) (to2 c) (by decide)) $$ HR HO HT1 HP1
  iintro HO
  iapply (done defs 𝒱 c)
  iapply Hk
  isplitr; · ipureintro; rfl
  isplitl [HO]; · iexact HO
  isplitl [H1]; · iexact H1
  isplitl [H2]; · iexact H2
  iexact H3

theorem part3 (c : Dev nD) (v2 v5 v10 v21 w : BitVec 32) {Q : _ → sProp (MT nD τ sig Unit (Elt F) ℕ UU ℕ)} :
    records m K ⊢ iprop(Owe c 2 -∗ payTok c 2 -∗ barPay (nb c 2) 2 -∗ xHeld m c -∗ wFl m c 0 -∗ lFree c 0 -∗ lFree c 1
      -∗ cred (tallyAt (kcell (c, none)) () 3) -∗ pos c none
      -∗ (∀ r, iprop(⌜r.1 = k0_pay1 (xv m c)⌝ ∗ Owe c 3 ∗ xHeld m c ∗ semVal (wCell c 0) 0 ∗ wFull m c 0 ∗ Wwin m c 0 ∗ lKeep m c 0 ∗ held m c 0 ∗ lKeep m c 1 ∗ held m c 1
            ∗ semVal (kcell (c, none)) 0 ∗ barPay c 0 ∗ barPay c 1 ∗ barPay c 2) -∗ Q r)
      -∗ WP defs 𝒱 c (onBufs (k0_part3 (F := F)) c v2 v5 v10 v21 (SemArray.scalar (sig.barrier 0 rfl)) w) Q) := by
  iintro #HR HO HT HP Hx HF L0 L1 HC HA Hk
  rw [k0_part3_eq_skeleton]
  unfold k0_part3_skel
  simp only [semSignalWord, semWaitWord, Prog.lift, Prog.bind_op, Prog.bind_ret, Prog.pure_eq_ret]
  iapply (op_signal m K defs 𝒱 c _ 2 2 3 rfl rfl 2 (by decide) (by decide) (by decide) (to3 c) (by decide)) $$ HR HO HT HP
  iintro HO
  iapply (op_loadX m defs 𝒱 c) $$ Hx
  iintro Hx
  iapply (op_fetched m K defs 𝒱 c 0 3 rfl rfl) $$ HR HO HF
  iintro ⟨HO, Hv, Hw, HW⟩
  iapply (op_loadW m defs 𝒱 c 0 rfl) $$ Hw
  iintro Hw
  iapply (op_fillL m defs 𝒱 c 0 rfl rfl rfl) $$ L0
  iintro L0
  iapply (op_fillL m defs 𝒱 c 1 rfl rfl rfl) $$ L1
  iintro L1
  iapply (op_barrier m K defs 𝒱 c (by decide)) $$ HR HO HC HA
  iintro ⟨HO, HB⟩
  iapply (done defs 𝒱 c)
  ihave L0 := (l_split0 m c) $$ L0
  ihave L1 := (l_split1 m c) $$ L1
  icases L0 with ⟨L0, S0⟩
  icases L1 with ⟨L1, S1⟩
  iapply Hk
  isplitr; · ipureintro; rfl
  isplitl [HO]; · iexact HO
  isplitl [Hx]; · iexact Hx
  isplitl [Hv]; · iexact Hv
  isplitl [Hw]; · iexact Hw
  isplitl [HW]; · iexact HW
  isplitl [L0]; · iexact L0
  isplitl [S0]; · iexact S0
  isplitl [L1]; · iexact L1
  isplitl [S1]; · iexact S1
  iexact HB

theorem part4 (c : Dev nD) (w1 w2 w3 w4 w5 : BitVec 32) {Q : PUnit → sProp (MT nD τ sig Unit (Elt F) ℕ UU ℕ)} :
    records m K ⊢ iprop(Owe c 3 -∗ payTok c 3 -∗ sendTok c (some 0) -∗ held m c 0 -∗ dest c 0
      -∗ payTok c 4 -∗ sendTok c (some 1) -∗ held m c 1 -∗ dest c 1
      -∗ (iprop(Owe c 5 ∗ credit c (some (true, some 0)) ∗ credit c (some (true, some 1))) -∗ Q ⟨⟩)
      -∗ WP defs 𝒱 c (onBufs (k0_part4 (F := F)) c w1 w2 w3 w4 w5) Q) := by
  iintro #HR HO T0 S0 L0 F0 T1 S1 L1 F1 Hk
  rw [k0_part4_eq_skeleton]
  unfold k0_part4_skel
  simp only [Prog.lift, Prog.bind_op, Prog.bind_ret, Prog.pure_eq_ret]
  iapply (op_send m K defs 𝒱 c _ 0 3 3 4 rfl rfl rfl rfl rfl (dev4_eq c) (land0 c) rfl (pSl_at _ (off5_eq c)) rfl rfl) $$ HR HO T0 S0 L0 F0
  iintro ⟨HO, C0⟩
  iapply (op_send m K defs 𝒱 c _ 1 4 4 5 rfl rfl rfl rfl rfl (dev5_eq c) (land1 c) rfl (pSl_at _ (off6_eq c)) rfl rfl) $$ HR HO T1 S1 L1 F1
  iintro ⟨HO, C1⟩
  iapply (done defs 𝒱 c)
  iapply Hk
  isplitl [HO]; · iexact HO
  isplitl [C0]; · iexact C0
  iexact C1

theorem part5 (c : Dev nD) {Q : _ → sProp (MT nD τ sig Unit (Elt F) ℕ UU ℕ)} :
    records m K ⊢ iprop(Owe c 5 -∗ wFl m c 1 -∗ wFl m c 2 -∗ lFree c 2 -∗ lFree c 3 -∗ lFree c 4
      -∗ (∀ r, iprop(⌜r = k0_pay10 (k0_pay1 (xv m c)) (wX m c 2)⌝ ∗ Owe c 5 ∗ semVal (wCell c 1) 0 ∗ wFull m c 1 ∗ Wwin m c 1 ∗ semVal (wCell c 2) 0 ∗ wFull m c 2 ∗ Wwin m c 2
            ∗ lKeep m c 2 ∗ held m c 2 ∗ lKeep m c 3 ∗ held m c 3 ∗ lKeep m c 4) -∗ Q r)
      -∗ WP defs 𝒱 c (onBufs (k0_part5 (F := F)) c (k0_pay1 (xv m c))) Q) := by
  iintro #HR HO HF1 HF2 L2 L3 L4 Hk
  rw [k0_part5_eq_skeleton]
  unfold k0_part5_skel
  simp only [Prog.lift, Prog.bind_op, Prog.bind_ret, Prog.pure_eq_ret]
  iapply (op_fetched m K defs 𝒱 c 1 5 rfl rfl) $$ HR HO HF1
  iintro ⟨HO, Hv1, Hw1, HW1⟩
  iapply (op_loadW m defs 𝒱 c 1 rfl) $$ Hw1
  iintro Hw1
  iapply (op_fillL m defs 𝒱 c 2 rfl rfl rfl) $$ L2
  iintro L2
  iapply (op_fillL m defs 𝒱 c 3 rfl rfl rfl) $$ L3
  iintro L3
  iapply (op_fetched m K defs 𝒱 c 2 5 rfl rfl) $$ HR HO HF2
  iintro ⟨HO, Hv2, Hw2, HW2⟩
  iapply (op_loadW m defs 𝒱 c 2 rfl) $$ Hw2
  iintro Hw2
  iapply (op_fillL m defs 𝒱 c 4 rfl rfl rfl) $$ L4
  iintro L4
  iapply (done defs 𝒱 c)
  ihave L2 := (l_split2 m c) $$ L2
  ihave L3 := (l_split3 m c) $$ L3
  icases L2 with ⟨L2, S2⟩
  icases L3 with ⟨L3, S3⟩
  iapply Hk
  isplitr; · ipureintro; rfl
  isplitl [HO]; · iexact HO
  isplitl [Hv1]; · iexact Hv1
  isplitl [Hw1]; · iexact Hw1
  isplitl [HW1]; · iexact HW1
  isplitl [Hv2]; · iexact Hv2
  isplitl [Hw2]; · iexact Hw2
  isplitl [HW2]; · iexact HW2
  isplitl [L2]; · iexact L2
  isplitl [S2]; · iexact S2
  isplitl [L3]; · iexact L3
  isplitl [S3]; · iexact S3
  iapply (l_kept4 m c); iexact L4

theorem part6 (c : Dev nD) {Q : _ → sProp (MT nD τ sig Unit (Elt F) ℕ UU ℕ)} :
    records m K ⊢ iprop(Owe c 5 -∗ wFl m c 3 -∗ lFree c 5 -∗ lFree c 6 -∗ lFree c 7 -∗ lKeep m c 0 -∗ lKeep m c 1
      -∗ (∀ r, iprop(⌜r = s2 m c⌝ ∗ Owe c 5 ∗ semVal (wCell c 3) 0 ∗ wFull m c 3 ∗ Wwin m c 3 ∗ lKeep m c 5 ∗ lKeep m c 6 ∗ lKeep m c 7 ∗ lKeep m c 0 ∗ lKeep m c 1) -∗ Q r)
      -∗ WP defs 𝒱 c (onBufs (k0_part6 (F := F)) c (k0_pay1 (xv m c)) (k0_pay10 (k0_pay1 (xv m c)) (wX m c 2))) Q) := by
  iintro #HR HO HF L5 L6 L7 L0 L1 Hk
  rw [k0_part6_eq_skeleton]
  unfold k0_part6_skel
  simp only [Prog.lift, Prog.bind_op, Prog.bind_ret, Prog.pure_eq_ret]
  iapply (op_fillL m defs 𝒱 c 5 rfl rfl rfl) $$ L5
  iintro L5
  iapply (op_fetched m K defs 𝒱 c 3 5 rfl rfl) $$ HR HO HF
  iintro ⟨HO, Hv, Hw, HW⟩
  iapply (op_loadW m defs 𝒱 c 3 rfl) $$ Hw
  iintro Hw
  iapply (op_fillL m defs 𝒱 c 6 rfl rfl rfl) $$ L6
  iintro L6
  iapply (op_fillL m defs 𝒱 c 7 rfl rfl rfl) $$ L7
  iintro L7
  iapply (op_loadL m defs 𝒱 c 0 rfl) $$ L0
  iintro L0
  iapply (op_loadL m defs 𝒱 c 1 rfl) $$ L1
  iintro L1
  iapply (done defs 𝒱 c)
  iapply Hk
  isplitr; · ipureintro; rfl
  isplitl [HO]; · iexact HO
  isplitl [Hv]; · iexact Hv
  isplitl [Hw]; · iexact Hw
  isplitl [HW]; · iexact HW
  isplitl [L5]; · iapply (l_kept5 m c); iexact L5
  isplitl [L6]; · iapply (l_kept6 m c); iexact L6
  isplitl [L7]; · iapply (l_kept7 m c); iexact L7
  isplitl [L0]; · iexact L0
  iexact L1

theorem part7 (c : Dev nD) (v19 : BitVec 32) {Q : _ → sProp (MT nD τ sig Unit (Elt F) ℕ UU ℕ)} :
    lKeep m c 2 ⊢ iprop(lKeep m c 3 -∗ lKeep m c 4 -∗ lKeep m c 5 -∗ lKeep m c 6 -∗ lKeep m c 7 -∗ (∃ Y, owns (c : Thread nD τ) sR fullShare Y)
      -∗ (∀ r, iprop(⌜r.1 = s8 m c⌝ ∗ lKeep m c 2 ∗ lKeep m c 3 ∗ lKeep m c 4 ∗ lKeep m c 5 ∗ lKeep m c 6 ∗ lKeep m c 7 ∗ sHeld m c) -∗ Q r)
      -∗ WP defs 𝒱 c (onBufs (k0_part7 (F := F)) v19 (s2 m c)) Q) := by
  iintro L2 L3 L4 L5 L6 L7 HS Hk
  rw [k0_part7_eq_skeleton]
  unfold k0_part7_skel
  simp only [Prog.lift, Prog.bind_op, Prog.bind_ret, Prog.pure_eq_ret]
  iapply (op_loadL m defs 𝒱 c 2 rfl) $$ L2
  iintro L2
  iapply (op_loadL m defs 𝒱 c 3 rfl) $$ L3
  iintro L3
  iapply (op_loadL m defs 𝒱 c 4 rfl) $$ L4
  iintro L4
  iapply (op_loadL m defs 𝒱 c 5 rfl) $$ L5
  iintro L5
  iapply (op_loadL m defs 𝒱 c 6 rfl) $$ L6
  iintro L6
  iapply (op_loadL m defs 𝒱 c 7 rfl) $$ L7
  iintro L7
  iapply (op_fillS m defs 𝒱 c rfl) $$ HS
  iintro HS
  iapply (done defs 𝒱 c)
  iapply Hk
  isplitr; · ipureintro; rfl
  isplitl [L2]; · iexact L2
  isplitl [L3]; · iexact L3
  isplitl [L4]; · iexact L4
  isplitl [L5]; · iexact L5
  isplitl [L6]; · iexact L6
  isplitl [L7]; · iexact L7
  iexact HS

theorem part8 (c : Dev nD) (w1 w2 w3 w4 w5 : BitVec 32) {Q : _ → sProp (MT nD τ sig Unit (Elt F) ℕ UU ℕ)} :
    records m K ⊢ iprop(Owe c 5 -∗ payTok c 5 -∗ sendTok c none -∗ sHeld m c -∗ freeS (xn c)
      -∗ payTok c 6 -∗ sendTok c (some 2) -∗ held m c 2 -∗ dest c 2
      -∗ (iprop(Owe c 7 ∗ credit c (some (true, none)) ∗ credit c (some (true, some 2))) -∗ Q ⟨⟩)
      -∗ WP defs 𝒱 c (onBufs (k0_part8 (F := F)) c w1 w2 w3 w4 w5) Q) := by
  iintro #HR HO T0 S0 L0 F0 T1 S1 L1 F1 Hk
  rw [k0_part8_eq_skeleton]
  unfold k0_part8_skel
  simp only [Prog.lift, Prog.bind_op, Prog.bind_ret, Prog.pure_eq_ret]
  iapply (op_sendSum m K defs 𝒱 c _ (dev6_eq c) rfl rfl) $$ HR HO T0 S0 L0 F0
  iintro ⟨HO, C0⟩
  iapply (op_send m K defs 𝒱 c _ 2 6 6 7 rfl rfl rfl rfl rfl (dev7_eq c) (land2 c) rfl (pSl_at _ (off7_eq c)) rfl rfl) $$ HR HO T1 S1 L1 F1
  iintro ⟨HO, C1⟩
  iapply (done defs 𝒱 c)
  iapply Hk
  isplitl [HO]; · iexact HO
  isplitl [C0]; · iexact C0
  iexact C1

theorem part9 (c : Dev nD) (w1 w2 w3 w4 w5 w6 : BitVec 32) {Q : _ → sProp (MT nD τ sig Unit (Elt F) ℕ UU ℕ)} :
    records m K ⊢ iprop(Owe c 7 -∗ payTok c 7 -∗ sendTok c (some 3) -∗ held m c 3 -∗ dest c 3
      -∗ credit c (some (false, some 0)) -∗ pos c (some (false, some 0)) -∗ payTok c 8 -∗ sendTok c (some 4) -∗ dest c 4
      -∗ (iprop(Owe c 9 ∗ credit c (some (true, some 3)) ∗ semVal (kcell (c, some (false, some 0))) 0 ∗ pKeep m c 0 ∗ held m c 6 ∗ credit c (some (true, some 4))) -∗ Q ⟨⟩)
      -∗ WP defs 𝒱 c (onBufs (k0_part9 (F := F)) c w1 w2 w3 w4 w5 w6) Q) := by
  iintro #HR HO T0 S0 L0 F0 C P T1 S1 F1 Hk
  rw [k0_part9_eq_skeleton]
  unfold k0_part9_skel
  simp only [Prog.lift, Prog.bind_op, Prog.bind_ret, Prog.pure_eq_ret]
  iapply (op_send m K defs 𝒱 c _ 3 7 7 8 rfl rfl rfl rfl rfl (dev8_eq c) (land3 c) rfl (pSl_at _ (off8_eq c)) rfl rfl) $$ HR HO T0 S0 L0 F0
  iintro ⟨HO, C0⟩
  iapply (op_recv m K defs 𝒱 c 0 8 lev_recv0 rfl (pSl_at _ (off5_eq c)) rfl) $$ HR HO C P
  iintro ⟨HO, Hv, H⟩
  ihave H := (p_split0 m c) $$ H
  icases H with ⟨H, H4, H6⟩
  iapply (op_send m K defs 𝒱 c _ 4 8 8 9 rfl rfl rfl rfl rfl (dev9_eq c) (land4 c) ((pSl_at _ (off5_eq c)).trans (from4 c).symm) (pSl_at _ (off5_eq c)) rfl rfl) $$ HR HO T1 S1 H4 F1
  iintro ⟨HO, C1⟩
  iapply (done defs 𝒱 c)
  iapply Hk
  isplitl [HO]; · iexact HO
  isplitl [C0]; · iexact C0
  isplitl [Hv]; · iexact Hv
  isplitl [H]; · iexact H
  isplitl [H6]; · iexact H6
  iexact C1

theorem part10 (c : Dev nD) (w1 w2 w3 w4 w5 w6 : BitVec 32) {Q : _ → sProp (MT nD τ sig Unit (Elt F) ℕ UU ℕ)} :
    records m K ⊢ iprop(Owe c 9 -∗ payTok c 9 -∗ sendTok c (some 6) -∗ held m c 6 -∗ dest c 6
      -∗ credit c (some (false, some 1)) -∗ pos c (some (false, some 1))
      -∗ (iprop(Owe c 10 ∗ credit c (some (true, some 6)) ∗ semVal (kcell (c, some (false, some 1))) 0 ∗ pKeep m c 1 ∗ held m c 5 ∗ held m c 7) -∗ Q ⟨⟩)
      -∗ WP defs 𝒱 c (onBufs (k0_part10 (F := F)) c w1 w2 w3 w4 w5 w6) Q) := by
  iintro #HR HO T0 S0 L0 F0 C P Hk
  rw [k0_part10_eq_skeleton]
  unfold k0_part10_skel
  simp only [Prog.lift, Prog.bind_op, Prog.bind_ret, Prog.pure_eq_ret]
  iapply (op_send m K defs 𝒱 c _ 6 9 9 10 rfl rfl rfl rfl rfl (dev10_eq c) (land6 c) ((pSl_at _ (off5_eq c)).trans (from6 c).symm) (pSl_at _ (off5_eq c)) rfl rfl) $$ HR HO T0 S0 L0 F0
  iintro ⟨HO, C0⟩
  iapply (op_recv m K defs 𝒱 c 1 10 lev_recv1 rfl (pSl_at _ (off6_eq c)) rfl) $$ HR HO C P
  iintro ⟨HO, Hv, H⟩
  ihave H := (p_split1 m c) $$ H
  iapply (done defs 𝒱 c)
  iapply Hk
  isplitl [HO]; · iexact HO
  isplitl [C0]; · iexact C0
  isplitl [Hv]; · iexact Hv
  iexact H

theorem part11 (c : Dev nD) (w1 w2 w3 w4 w5 w6 w7 : BitVec 32) {Q : _ → sProp (MT nD τ sig Unit (Elt F) ℕ UU ℕ)} :
    records m K ⊢ iprop(Owe c 10 -∗ payTok c 10 -∗ sendTok c (some 5) -∗ held m c 5 -∗ dest c 5
      -∗ payTok c 11 -∗ sendTok c (some 7) -∗ held m c 7 -∗ dest c 7
      -∗ (∀ r, iprop(Owe c 12 ∗ credit c (some (true, some 5)) ∗ credit c (some (true, some 7))) -∗ Q r)
      -∗ WP defs 𝒱 c (onBufs (k0_part11 (F := F)) c w1 w2 w3 w4 w5 w6 w7) Q) := by
  iintro #HR HO T0 S0 L0 F0 T1 S1 L1 F1 Hk
  rw [k0_part11_eq_skeleton]
  unfold k0_part11_skel
  simp only [Prog.lift, Prog.bind_op, Prog.bind_ret, Prog.pure_eq_ret]
  iapply (op_send m K defs 𝒱 c _ 5 10 10 11 rfl rfl rfl rfl rfl (dev11_eq c) (land5 c) ((pSl_at _ (off6_eq c)).trans (from5 c).symm) (pSl_at _ (off6_eq c)) rfl rfl) $$ HR HO T0 S0 L0 F0
  iintro ⟨HO, C0⟩
  iapply (op_send m K defs 𝒱 c _ 7 11 11 12 rfl rfl rfl rfl rfl (dev12_eq c) (land7 c) ((pSl_at _ (off6_eq c)).trans (from7 c).symm) (pSl_at _ (off6_eq c)) rfl rfl) $$ HR HO T1 S1 L1 F1
  iintro ⟨HO, C1⟩
  iapply (done defs 𝒱 c)
  iapply Hk
  isplitl [HO]; · iexact HO
  isplitl [C0]; · iexact C0
  iexact C1

end Cert.SoftmaxProof

end
-- ==== Proof.Output.lean ====
/-
The second half of the kernel, part by part as printed: scaling the exponentials, writing the sixteen
pieces of the result, and waiting for everything sent and written.
-/
module

public import proofs.«01_k».proof.Proof.Compute

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)
variable (defs : Defs nD τ sig (Elt F) Λ₀) (𝒱 : Variants)

/-! ## The pieces from the device's own chunks -/

theorem part12 (c : Dev nD) (w1 w2 w3 w4 w5 w6 : BitVec 32) {Q : _ → sProp (MT nD τ sig Unit (Elt F) ℕ UU ℕ)} :
    records m K ⊢ iprop(Owe c 12 -∗ credit c (some (false, none)) -∗ pos c (some (false, none)) -∗ lKeep m c 0 -∗ lKeep m c 1
      -∗ oFree c 0 -∗ outFree c 0 -∗ semVal (oCell c 0) 0
      -∗ (∀ r, iprop(⌜r.1 = inv m c ∧ r.2.2.1 = k0_pay20 (s8 m c) (sv m (xn c)) (lg m c 1)⌝ ∗ Owe c 12 ∗ semVal (kcell (c, some (false, none))) 0 ∗ spHeld m c
            ∗ lKeep m c 0 ∗ lKeep m c 1 ∗ oFl m c 0) -∗ Q r)
      -∗ WP defs 𝒱 c (onBufs (k0_part12 (F := F)) c w1 w2 w3 w4 (s8 m c) w5 w6) Q) := by
  iintro #HR HO C P L0 L1 Ho Hout Hv Hk
  rw [k0_part12_eq_skeleton]
  unfold k0_part12_skel
  simp only [Prog.lift, Prog.bind_op, Prog.bind_ret, Prog.pure_eq_ret]
  iapply (op_recvSum m K defs 𝒱 c rfl (M := spR) rfl rfl) $$ HR HO C P
  iintro ⟨HO, Hvs, Hs⟩
  iapply (op_loadSp m defs 𝒱 c) $$ Hs
  iintro Hs
  iapply (op_loadL m defs 𝒱 c 0 rfl) $$ L0
  iintro L0
  iapply (op_fillO m defs 𝒱 c 0 rfl rfl rfl) $$ Ho
  iintro Ho
  iapply (op_put m defs 𝒱 c 0 rfl (outSl_at _ (off9a_eq c)) rfl) $$ Ho Hout Hv
  iintro HF
  iapply (op_loadL m defs 𝒱 c 1 rfl) $$ L1
  iintro L1
  iapply (done defs 𝒱 c)
  iapply Hk
  isplitr; · ipureintro; exact ⟨rfl, rfl⟩
  isplitl [HO]; · iexact HO
  isplitl [Hvs]; · iexact Hvs
  isplitl [Hs]; · iexact Hs
  isplitl [L0]; · iexact L0
  isplitl [L1]; · iexact L1
  iexact HF

theorem part13 (c : Dev nD) (w1 w2 w3 : BitVec 32) {Q : _ → sProp (MT nD τ sig Unit (Elt F) ℕ UU ℕ)} :
    lKeep m c 2 ⊢ iprop(lKeep m c 3 -∗ oFree c 1 -∗ outFree c 1 -∗ semVal (oCell c 1) 0 -∗ oFree c 2 -∗ outFree c 2 -∗ semVal (oCell c 2) 0
      -∗ (∀ r, iprop(⌜r = k0_pay23 (lg m c 3)⌝ ∗ lKeep m c 2 ∗ lKeep m c 3 ∗ oFl m c 1 ∗ oFl m c 2) -∗ Q r)
      -∗ WP defs 𝒱 c (onBufs (k0_part13 (F := F)) c w1 (inv m c) w2 (k0_pay20 (s8 m c) (sv m (xn c)) (lg m c 1)) w3) Q) := by
  iintro L2 L3 Ho1 Hout1 Hv1 Ho2 Hout2 Hv2 Hk
  rw [k0_part13_eq_skeleton]
  unfold k0_part13_skel
  simp only [Prog.lift, Prog.bind_op, Prog.bind_ret, Prog.pure_eq_ret]
  iapply (op_fillO m defs 𝒱 c 1 rfl rfl rfl) $$ Ho1
  iintro Ho1
  iapply (op_put m defs 𝒱 c 1 rfl (outSl_at _ (off9b_eq c)) rfl) $$ Ho1 Hout1 Hv1
  iintro HF1
  iapply (op_loadL m defs 𝒱 c 2 rfl) $$ L2
  iintro L2
  iapply (op_fillO m defs 𝒱 c 2 rfl rfl rfl) $$ Ho2
  iintro Ho2
  iapply (op_put m defs 𝒱 c 2 rfl (outSl_at _ (off10a_eq c)) rfl) $$ Ho2 Hout2 Hv2
  iintro HF2
  iapply (op_loadL m defs 𝒱 c 3 rfl) $$ L3
  iintro L3
  iapply (done defs 𝒱 c)
  iapply Hk
  isplitr; · ipureintro; rfl
  isplitl [L2]; · iexact L2
  isplitl [L3]; · iexact L3
  isplitl [HF1]; · iexact HF1
  iexact HF2

theorem part14 (c : Dev nD) (w1 w2 w3 : BitVec 32) {Q : _ → sProp (MT nD τ sig Unit (Elt F) ℕ UU ℕ)} :
    lKeep m c 4 ⊢ iprop(oFree c 3 -∗ outFree c 3 -∗ semVal (oCell c 3) 0 -∗ oFree c 4 -∗ outFree c 4 -∗ semVal (oCell c 4) 0
      -∗ (iprop(lKeep m c 4 ∗ oFl m c 3 ∗ oFl m c 4) -∗ Q ⟨⟩)
      -∗ WP defs 𝒱 c (onBufs (k0_part14 (F := F)) c w1 w2 (inv m c) w3 (k0_pay23 (lg m c 3))) Q) := by
  iintro L4 Ho1 Hout1 Hv1 Ho2 Hout2 Hv2 Hk
  rw [k0_part14_eq_skeleton]
  unfold k0_part14_skel
  simp only [Prog.lift, Prog.bind_op, Prog.bind_ret, Prog.pure_eq_ret]
  iapply (op_fillO m defs 𝒱 c 3 rfl rfl rfl) $$ Ho1
  iintro Ho1
  iapply (op_put m defs 𝒱 c 3 rfl (outSl_at _ (off10b_eq c)) rfl) $$ Ho1 Hout1 Hv1
  iintro HF1
  iapply (op_loadL m defs 𝒱 c 4 rfl) $$ L4
  iintro L4
  iapply (op_fillO m defs 𝒱 c 4 rfl rfl rfl) $$ Ho2
  iintro Ho2
  iapply (op_put m defs 𝒱 c 4 rfl (outSl_at _ (off11a_eq c)) rfl) $$ Ho2 Hout2 Hv2
  iintro HF2
  iapply (done defs 𝒱 c)
  iapply Hk
  isplitl [L4]; · iexact L4
  isplitl [HF1]; · iexact HF1
  iexact HF2

theorem part15 (c : Dev nD) (w1 w2 w3 : BitVec 32) {Q : _ → sProp (MT nD τ sig Unit (Elt F) ℕ UU ℕ)} :
    lKeep m c 5 ⊢ iprop(lKeep m c 6 -∗ oFree c 5 -∗ outFree c 5 -∗ semVal (oCell c 5) 0 -∗ oFree c 6
      -∗ (iprop(lKeep m c 5 ∗ lKeep m c 6 ∗ oFl m c 5 ∗ oFull m c 6) -∗ Q ⟨⟩)
      -∗ WP defs 𝒱 c (onBufs (k0_part15 (F := F)) c w1 w2 (inv m c) w3) Q) := by
  iintro L5 L6 Ho1 Hout1 Hv1 Ho2 Hk
  rw [k0_part15_eq_skeleton]
  unfold k0_part15_skel
  simp only [Prog.lift, Prog.bind_op, Prog.bind_ret, Prog.pure_eq_ret]
  iapply (op_loadL m defs 𝒱 c 5 rfl) $$ L5
  iintro L5
  iapply (op_fillO m defs 𝒱 c 5 rfl rfl rfl) $$ Ho1
  iintro Ho1
  iapply (op_put m defs 𝒱 c 5 rfl (outSl_at _ (off11b_eq c)) rfl) $$ Ho1 Hout1 Hv1
  iintro HF1
  iapply (op_loadL m defs 𝒱 c 6 rfl) $$ L6
  iintro L6
  iapply (op_fillO m defs 𝒱 c 6 rfl rfl rfl) $$ Ho2
  iintro Ho2
  iapply (done defs 𝒱 c)
  iapply Hk
  isplitl [L5]; · iexact L5
  isplitl [L6]; · iexact L6
  isplitl [HF1]; · iexact HF1
  iexact Ho2

theorem part16 (c : Dev nD) (w1 w2 w3 w4 : BitVec 32) {Q : _ → sProp (MT nD τ sig Unit (Elt F) ℕ UU ℕ)} :
    oFull m c 6 ⊢ iprop(outFree c 6 -∗ semVal (oCell c 6) 0 -∗ lKeep m c 7 -∗ oFree c 7 -∗ outFree c 7 -∗ semVal (oCell c 7) 0 -∗ pKeep m c 0 -∗ oFree c 8
      -∗ (∀ r, iprop(oFl m c 6 ∗ lKeep m c 7 ∗ oFl m c 7 ∗ pKeep m c 0 ∗ oFull m c 8) -∗ Q r)
      -∗ WP defs 𝒱 c (onBufs (k0_part16 (F := F)) c w1 w2 w3 (inv m c) w4) Q) := by
  iintro Ho1 Hout1 Hv1 L7 Ho2 Hout2 Hv2 P0 Ho3 Hk
  rw [k0_part16_eq_skeleton]
  unfold k0_part16_skel
  simp only [Prog.lift, Prog.bind_op, Prog.bind_ret, Prog.pure_eq_ret]
  iapply (op_put m defs 𝒱 c 6 rfl (outSl_at _ (off12a_eq c)) rfl) $$ Ho1 Hout1 Hv1
  iintro HF1
  iapply (op_loadL m defs 𝒱 c 7 rfl) $$ L7
  iintro L7
  iapply (op_fillO m defs 𝒱 c 7 rfl rfl rfl) $$ Ho2
  iintro Ho2
  iapply (op_put m defs 𝒱 c 7 rfl (outSl_at _ (off12b_eq c)) rfl) $$ Ho2 Hout2 Hv2
  iintro HF2
  iapply (op_loadP m defs 𝒱 c 0 (off13_eq c)) $$ P0
  iintro P0
  iapply (op_fillO m defs 𝒱 c 8 rfl rfl rfl) $$ Ho3
  iintro Ho3
  iapply (done defs 𝒱 c)
  iapply Hk
  isplitl [HF1]; · iexact HF1
  isplitl [L7]; · iexact L7
  isplitl [HF2]; · iexact HF2
  isplitl [P0]; · iexact P0
  iexact Ho3

/-! ## The pieces from the chunks received -/

theorem part17 (c : Dev nD) (w1 w2 w3 w4 w5 : BitVec 32) {Q : _ → sProp (MT nD τ sig Unit (Elt F) ℕ UU ℕ)} :
    oFull m c 8 ⊢ iprop(outFree c 8 -∗ semVal (oCell c 8) 0 -∗ pKeep m c 1 -∗ oFree c 9 -∗ outFree c 9 -∗ semVal (oCell c 9) 0
      -∗ (iprop(oFl m c 8 ∗ pKeep m c 1 ∗ oFl m c 9) -∗ Q ⟨⟩)
      -∗ WP defs 𝒱 c (onBufs (k0_part17 (F := F)) c w1 w2 w3 w4 (inv m c) w5) Q) := by
  iintro Ho1 Hout1 Hv1 P1 Ho2 Hout2 Hv2 Hk
  rw [k0_part17_eq_skeleton]
  unfold k0_part17_skel
  simp only [Prog.lift, Prog.bind_op, Prog.bind_ret, Prog.pure_eq_ret]
  iapply (op_put m defs 𝒱 c 8 rfl (outSl_at _ (off14_eq c)) rfl) $$ Ho1 Hout1 Hv1
  iintro HF1
  iapply (op_loadP m defs 𝒱 c 1 (off15_eq c)) $$ P1
  iintro P1
  iapply (op_fillO m defs 𝒱 c 9 rfl rfl rfl) $$ Ho2
  iintro Ho2
  iapply (op_put m defs 𝒱 c 9 rfl (outSl_at _ (off16_eq c)) rfl) $$ Ho2 Hout2 Hv2
  iintro HF2
  iapply (done defs 𝒱 c)
  iapply Hk
  isplitl [HF1]; · iexact HF1
  isplitl [P1]; · iexact P1
  iexact HF2

theorem part18 (c : Dev nD) (w1 w2 w3 w4 w5 : BitVec 32) {Q : _ → sProp (MT nD τ sig Unit (Elt F) ℕ UU ℕ)} :
    records m K ⊢ iprop(Owe c 12 -∗ credit c (some (false, some 2)) -∗ pos c (some (false, some 2)) -∗ oFree c 10 -∗ outFree c 10 -∗ semVal (oCell c 10) 0
      -∗ (iprop(Owe c 12 ∗ semVal (kcell (c, some (false, some 2))) 0 ∗ pKeep m c 2 ∗ oFl m c 10) -∗ Q ⟨⟩)
      -∗ WP defs 𝒱 c (onBufs (k0_part18 (F := F)) c w1 w2 w3 w4 (inv m c) w5) Q) := by
  iintro #HR HO C P Ho Hout Hv Hk
  rw [k0_part18_eq_skeleton]
  unfold k0_part18_skel
  simp only [Prog.lift, Prog.bind_op, Prog.bind_ret, Prog.pure_eq_ret]
  iapply (op_recv m K defs 𝒱 c 2 12 (lev_recv _) rfl (pSl_at _ (off7_eq c)) rfl) $$ HR HO C P
  iintro ⟨HO, Hs, H⟩
  ihave H := (p_kept2 m c) $$ H
  iapply (op_loadP m defs 𝒱 c 2 (off17_eq c)) $$ H
  iintro H
  iapply (op_fillO m defs 𝒱 c 10 rfl rfl rfl) $$ Ho
  iintro Ho
  iapply (op_put m defs 𝒱 c 10 rfl (outSl_at _ (off18_eq c)) rfl) $$ Ho Hout Hv
  iintro HF
  iapply (done defs 𝒱 c)
  iapply Hk
  isplitl [HO]; · iexact HO
  isplitl [Hs]; · iexact Hs
  isplitl [H]; · iexact H
  iexact HF

theorem part19 (c : Dev nD) (w1 w2 w3 w4 w5 w6 w7 : BitVec 32) {Q : _ → sProp (MT nD τ sig Unit (Elt F) ℕ UU ℕ)} :
    records m K ⊢ iprop(Owe c 12 -∗ credit c (some (false, some 3)) -∗ pos c (some (false, some 3)) -∗ oFree c 11 -∗ outFree c 11 -∗ semVal (oCell c 11) 0
      -∗ (∀ r, iprop(Owe c 12 ∗ semVal (kcell (c, some (false, some 3))) 0 ∗ pKeep m c 3 ∗ oFl m c 11) -∗ Q r)
      -∗ WP defs 𝒱 c (onBufs (k0_part19 (F := F)) c w1 w2 w3 w4 w5 w6 (inv m c) w7) Q) := by
  iintro #HR HO C P Ho Hout Hv Hk
  rw [k0_part19_eq_skeleton]
  unfold k0_part19_skel
  simp only [Prog.lift, Prog.bind_op, Prog.bind_ret, Prog.pure_eq_ret]
  iapply (op_recv m K defs 𝒱 c 3 12 (lev_recv _) rfl (pSl_at _ (off8_eq c)) rfl) $$ HR HO C P
  iintro ⟨HO, Hs, H⟩
  ihave H := (p_kept3 m c) $$ H
  iapply (op_loadP m defs 𝒱 c 3 (off19_eq c)) $$ H
  iintro H
  iapply (op_fillO m defs 𝒱 c 11 rfl rfl rfl) $$ Ho
  iintro Ho
  iapply (op_put m defs 𝒱 c 11 rfl (outSl_at _ (off20_eq c)) rfl) $$ Ho Hout Hv
  iintro HF
  iapply (done defs 𝒱 c)
  iapply Hk
  isplitl [HO]; · iexact HO
  isplitl [Hs]; · iexact Hs
  isplitl [H]; · iexact H
  iexact HF

theorem part20 (c : Dev nD) (w1 w2 w3 w4 w5 w6 w7 : BitVec 32) {Q : _ → sProp (MT nD τ sig Unit (Elt F) ℕ UU ℕ)} :
    records m K ⊢ iprop(Owe c 12 -∗ credit c (some (false, some 4)) -∗ pos c (some (false, some 4)) -∗ oFree c 12 -∗ outFree c 12 -∗ semVal (oCell c 12) 0
      -∗ (iprop(Owe c 12 ∗ semVal (kcell (c, some (false, some 4))) 0 ∗ pKeep m c 4 ∗ oFl m c 12) -∗ Q ⟨⟩)
      -∗ WP defs 𝒱 c (onBufs (k0_part20 (F := F)) c w1 w2 w3 (inv m c) w4 w5 w6 w7) Q) := by
  iintro #HR HO C P Ho Hout Hv Hk
  rw [k0_part20_eq_skeleton]
  unfold k0_part20_skel
  simp only [Prog.lift, Prog.bind_op, Prog.bind_ret, Prog.pure_eq_ret]
  iapply (op_recv m K defs 𝒱 c 4 12 (lev_recv _) rfl (pSl_at _ (off21y_eq c)) rfl) $$ HR HO C P
  iintro ⟨HO, Hs, H⟩
  ihave H := (p_kept4 m c) $$ H
  iapply (op_loadP m defs 𝒱 c 4 (off22y_eq c)) $$ H
  iintro H
  iapply (op_fillO m defs 𝒱 c 12 rfl rfl rfl) $$ Ho
  iintro Ho
  iapply (op_put m defs 𝒱 c 12 rfl (outSl_at _ (off23y_eq c)) rfl) $$ Ho Hout Hv
  iintro HF
  iapply (done defs 𝒱 c)
  iapply Hk
  isplitl [HO]; · iexact HO
  isplitl [Hs]; · iexact Hs
  isplitl [H]; · iexact H
  iexact HF

theorem part21 (c : Dev nD) (w1 w2 w3 w4 w5 w6 : BitVec 32) {Q : _ → sProp (MT nD τ sig Unit (Elt F) ℕ UU ℕ)} :
    records m K ⊢ iprop(Owe c 12 -∗ credit c (some (false, some 5)) -∗ pos c (some (false, some 5)) -∗ oFree c 13 -∗ outFree c 13 -∗ semVal (oCell c 13) 0
      -∗ credit c (some (false, some 6)) -∗ pos c (some (false, some 6))
      -∗ (iprop(Owe c 12 ∗ semVal (kcell (c, some (false, some 5))) 0 ∗ pKeep m c 5 ∗ oFl m c 13 ∗ semVal (kcell (c, some (false, some 6))) 0 ∗ pKeep m c 6) -∗ Q ⟨⟩)
      -∗ WP defs 𝒱 c (onBufs (k0_part21 (F := F)) c w1 w2 w3 (inv m c) w4 w5 w6) Q) := by
  iintro #HR HO C P Ho Hout Hv C' P' Hk
  rw [k0_part21_eq_skeleton]
  unfold k0_part21_skel
  simp only [Prog.lift, Prog.bind_op, Prog.bind_ret, Prog.pure_eq_ret]
  iapply (op_recv m K defs 𝒱 c 5 12 (lev_recv _) rfl (pSl_at _ (off24y_eq c)) rfl) $$ HR HO C P
  iintro ⟨HO, Hs, H⟩
  ihave H := (p_kept5 m c) $$ H
  iapply (op_loadP m defs 𝒱 c 5 (off25y_eq c)) $$ H
  iintro H
  iapply (op_fillO m defs 𝒱 c 13 rfl rfl rfl) $$ Ho
  iintro Ho
  iapply (op_put m defs 𝒱 c 13 rfl (outSl_at _ (off26y_eq c)) rfl) $$ Ho Hout Hv
  iintro HF
  iapply (op_recv m K defs 𝒱 c 6 12 (lev_recv _) rfl (pSl_at _ (off21z_eq c)) rfl) $$ HR HO C' P'
  iintro ⟨HO, Hs', H'⟩
  ihave H' := (p_kept6 m c) $$ H'
  iapply (done defs 𝒱 c)
  iapply Hk
  isplitl [HO]; · iexact HO
  isplitl [Hs]; · iexact Hs
  isplitl [H]; · iexact H
  isplitl [HF]; · iexact HF
  isplitl [Hs']; · iexact Hs'
  iexact H'

theorem part22 (c : Dev nD) (w1 w2 w3 w4 w5 w6 : BitVec 32) {Q : _ → sProp (MT nD τ sig Unit (Elt F) ℕ UU ℕ)} :
    records m K ⊢ iprop(Owe c 12 -∗ pKeep m c 6 -∗ oFree c 14 -∗ outFree c 14 -∗ semVal (oCell c 14) 0 -∗ credit c (some (false, some 7)) -∗ pos c (some (false, some 7))
      -∗ (∀ r, iprop(⌜r = k0_pay36 (inv m c) (rcv m c 7)⌝ ∗ Owe c 12 ∗ pKeep m c 6 ∗ oFl m c 14 ∗ semVal (kcell (c, some (false, some 7))) 0 ∗ pKeep m c 7) -∗ Q r)
      -∗ WP defs 𝒱 c (onBufs (k0_part22 (F := F)) c w1 w2 w3 (inv m c) w4 w5 w6) Q) := by
  iintro #HR HO H Ho Hout Hv C P Hk
  rw [k0_part22_eq_skeleton]
  unfold k0_part22_skel
  simp only [Prog.lift, Prog.bind_op, Prog.bind_ret, Prog.pure_eq_ret]
  iapply (op_loadP m defs 𝒱 c 6 (off22z_eq c)) $$ H
  iintro H
  iapply (op_fillO m defs 𝒱 c 14 rfl rfl rfl) $$ Ho
  iintro Ho
  iapply (op_put m defs 𝒱 c 14 rfl (outSl_at _ (off23z_eq c)) rfl) $$ Ho Hout Hv
  iintro HF
  iapply (op_recv m K defs 𝒱 c 7 12 (lev_recv _) rfl (pSl_at _ (off24z_eq c)) rfl) $$ HR HO C P
  iintro ⟨HO, Hs, H'⟩
  ihave H' := (p_kept7 m c) $$ H'
  iapply (op_loadP m defs 𝒱 c 7 (off25z_eq c)) $$ H'
  iintro H'
  iapply (done defs 𝒱 c)
  iapply Hk
  isplitr; · ipureintro; rfl
  isplitl [HO]; · iexact HO
  isplitl [H]; · iexact H
  isplitl [HF]; · iexact HF
  isplitl [Hs]; · iexact Hs
  iexact H'

/-! ## Waiting for what was sent and for what was written -/

theorem part23 (c : Dev nD) (w1 w2 : BitVec 32) {Q : _ → sProp (MT nD τ sig Unit (Elt F) ℕ UU ℕ)} :
    records m K ⊢ iprop(Owe c 12 -∗ oFree c 15 -∗ outFree c 15 -∗ semVal (oCell c 15) 0
      -∗ credit c (some (true, some 0)) -∗ pos c (some (true, some 0)) -∗ credit c (some (true, some 1)) -∗ pos c (some (true, some 1))
      -∗ (iprop(Owe c 12 ∗ oFl m c 15 ∗ semVal (kcell (c, some (true, some 0))) 0 ∗ held m c 0 ∗ semVal (kcell (c, some (true, some 1))) 0 ∗ held m c 1) -∗ Q ⟨⟩)
      -∗ WP defs 𝒱 c (onBufs (k0_part23 (F := F)) c w1 w2 (k0_pay36 (inv m c) (rcv m c 7))) Q) := by
  iintro #HR HO Ho Hout Hv C0 P0 C1 P1 Hk
  rw [k0_part23_eq_skeleton]
  unfold k0_part23_skel
  simp only [Prog.lift, Prog.bind_op, Prog.bind_ret, Prog.pure_eq_ret]
  iapply (op_fillO m defs 𝒱 c 15 rfl rfl rfl) $$ Ho
  iintro Ho
  iapply (op_put m defs 𝒱 c 15 rfl (outSl_at _ (off26z_eq c)) rfl) $$ Ho Hout Hv
  iintro HF
  iapply (op_sent m K defs 𝒱 c 0 rfl (M := cSq (lSl 0)) rfl rfl) $$ HR HO C0 P0
  iintro ⟨HO, H0⟩
  iapply (op_sent m K defs 𝒱 c 1 rfl (M := cSq (lSl 1)) rfl rfl) $$ HR HO C1 P1
  iintro ⟨HO, H1⟩
  iapply (done defs 𝒱 c)
  iapply Hk
  isplitl [HO]; · iexact HO
  isplitl [HF]; · iexact HF
  icases H0 with ⟨Ha, Hb⟩
  isplitl [Ha]; · iexact Ha
  isplitl [Hb]; · iexact Hb
  iexact H1

theorem part24 (c : Dev nD) {Q : _ → sProp (MT nD τ sig Unit (Elt F) ℕ UU ℕ)} :
    records m K ⊢ iprop(Owe c 12 -∗ credit c (some (true, some 2)) -∗ pos c (some (true, some 2)) -∗ credit c (some (true, some 3)) -∗ pos c (some (true, some 3))
      -∗ credit c (some (true, some 4)) -∗ pos c (some (true, some 4)) -∗ credit c (some (true, some 5)) -∗ pos c (some (true, some 5))
      -∗ (iprop(Owe c 12 ∗ (semVal (kcell (c, some (true, some 2))) 0 ∗ held m c 2) ∗ (semVal (kcell (c, some (true, some 3))) 0 ∗ held m c 3)
            ∗ (semVal (kcell (c, some (true, some 4))) 0 ∗ held m c 4) ∗ (semVal (kcell (c, some (true, some 5))) 0 ∗ held m c 5)) -∗ Q ⟨⟩)
      -∗ WP defs 𝒱 c (onBufs (k0_part24 (F := F)) c) Q) := by
  iintro #HR HO C2 P2 C3 P3 C4 P4 C5 P5 Hk
  rw [k0_part24_eq_skeleton]
  unfold k0_part24_skel
  simp only [Prog.lift, Prog.bind_op, Prog.bind_ret, Prog.pure_eq_ret]
  iapply (op_sent m K defs 𝒱 c 2 rfl (M := cSq (lSl 2)) rfl rfl) $$ HR HO C2 P2
  iintro ⟨HO, H2⟩
  iapply (op_sent m K defs 𝒱 c 3 rfl (M := cSq (lSl 3)) rfl rfl) $$ HR HO C3 P3
  iintro ⟨HO, H3⟩
  iapply (op_sent m K defs 𝒱 c 4 rfl (pSl_at _ (off5_eq c)) rfl) $$ HR HO C4 P4
  iintro ⟨HO, H4⟩
  iapply (op_sent m K defs 𝒱 c 5 rfl (pSl_at _ (off6_eq c)) rfl) $$ HR HO C5 P5
  iintro ⟨HO, H5⟩
  iapply (done defs 𝒱 c)
  iapply Hk
  isplitl [HO]; · iexact HO
  isplitl [H2]; · iexact H2
  isplitl [H3]; · iexact H3
  isplitl [H4]; · iexact H4
  iexact H5

theorem part25 (c : Dev nD) {Q : _ → sProp (MT nD τ sig Unit (Elt F) ℕ UU ℕ)} :
    records m K ⊢ iprop(Owe c 12 -∗ credit c (some (true, some 6)) -∗ pos c (some (true, some 6)) -∗ credit c (some (true, some 7)) -∗ pos c (some (true, some 7))
      -∗ credit c (some (true, none)) -∗ pos c (some (true, none)) -∗ oFl m c 0 -∗ oFl m c 1 -∗ oFl m c 2
      -∗ (iprop(Owe c 12 ∗ (semVal (kcell (c, some (true, some 6))) 0 ∗ held m c 6) ∗ (semVal (kcell (c, some (true, some 7))) 0 ∗ held m c 7)
            ∗ (semVal (kcell (c, some (true, none))) 0 ∗ sHeld m c) ∗ (semVal (oCell c 0) 0 ∗ oFull m c 0 ∗ outFull m c 0)
            ∗ (semVal (oCell c 1) 0 ∗ oFull m c 1 ∗ outFull m c 1) ∗ (semVal (oCell c 2) 0 ∗ oFull m c 2 ∗ outFull m c 2)) -∗ Q ⟨⟩)
      -∗ WP defs 𝒱 c (onBufs (k0_part25 (F := F)) c) Q) := by
  iintro #HR HO C6 P6 C7 P7 CS PS F0 F1 F2 Hk
  rw [k0_part25_eq_skeleton]
  unfold k0_part25_skel
  simp only [Prog.lift, Prog.bind_op, Prog.bind_ret, Prog.pure_eq_ret]
  iapply (op_sent m K defs 𝒱 c 6 rfl (pSl_at _ (off5_eq c)) rfl) $$ HR HO C6 P6
  iintro ⟨HO, H6⟩
  iapply (op_sent m K defs 𝒱 c 7 rfl (pSl_at _ (off6_eq c)) rfl) $$ HR HO C7 P7
  iintro ⟨HO, H7⟩
  iapply (op_sentSum m K defs 𝒱 c rfl (M := sR) rfl rfl) $$ HR HO CS PS
  iintro ⟨HO, HS⟩
  iapply (op_putDone m K defs 𝒱 c 0 12 rfl (outSl_at _ (off9a_eq c))) $$ HR HO F0
  iintro ⟨HO, F0⟩
  iapply (op_putDone m K defs 𝒱 c 1 12 rfl (outSl_at _ (off9b_eq c))) $$ HR HO F1
  iintro ⟨HO, F1⟩
  iapply (op_putDone m K defs 𝒱 c 2 12 rfl (outSl_at _ (off10a_eq c))) $$ HR HO F2
  iintro ⟨HO, F2⟩
  iapply (done defs 𝒱 c)
  iapply Hk
  isplitl [HO]; · iexact HO
  isplitl [H6]; · iexact H6
  isplitl [H7]; · iexact H7
  isplitl [HS]; · iexact HS
  isplitl [F0]; · iexact F0
  isplitl [F1]; · iexact F1
  iexact F2

theorem part26 (c : Dev nD) {Q : _ → sProp (MT nD τ sig Unit (Elt F) ℕ UU ℕ)} :
    records m K ⊢ iprop(Owe c 12 -∗ oFl m c 3 -∗ oFl m c 4 -∗ oFl m c 5 -∗ oFl m c 6 -∗ oFl m c 7 -∗ oFl m c 8
      -∗ (iprop(Owe c 12 ∗ (semVal (oCell c 3) 0 ∗ oFull m c 3 ∗ outFull m c 3) ∗ (semVal (oCell c 4) 0 ∗ oFull m c 4 ∗ outFull m c 4)
            ∗ (semVal (oCell c 5) 0 ∗ oFull m c 5 ∗ outFull m c 5) ∗ (semVal (oCell c 6) 0 ∗ oFull m c 6 ∗ outFull m c 6)
            ∗ (semVal (oCell c 7) 0 ∗ oFull m c 7 ∗ outFull m c 7) ∗ (semVal (oCell c 8) 0 ∗ oFull m c 8 ∗ outFull m c 8)) -∗ Q ⟨⟩)
      -∗ WP defs 𝒱 c (onBufs (k0_part26 (F := F)) c) Q) := by
  iintro #HR HO F3 F4 F5 F6 F7 F8 Hk
  rw [k0_part26_eq_skeleton]
  unfold k0_part26_skel
  simp only [Prog.lift, Prog.bind_op, Prog.bind_ret, Prog.pure_eq_ret]
  iapply (op_putDone m K defs 𝒱 c 3 12 rfl (outSl_at _ (off10b_eq c))) $$ HR HO F3
  iintro ⟨HO, F3⟩
  iapply (op_putDone m K defs 𝒱 c 4 12 rfl (outSl_at _ (off11a_eq c))) $$ HR HO F4
  iintro ⟨HO, F4⟩
  iapply (op_putDone m K defs 𝒱 c 5 12 rfl (outSl_at _ (off11b_eq c))) $$ HR HO F5
  iintro ⟨HO, F5⟩
  iapply (op_putDone m K defs 𝒱 c 6 12 rfl (outSl_at _ (off12a_eq c))) $$ HR HO F6
  iintro ⟨HO, F6⟩
  iapply (op_putDone m K defs 𝒱 c 7 12 rfl (outSl_at _ (off12b_eq c))) $$ HR HO F7
  iintro ⟨HO, F7⟩
  iapply (op_putDone m K defs 𝒱 c 8 12 rfl (outSl_at _ (off14_eq c))) $$ HR HO F8
  iintro ⟨HO, F8⟩
  iapply (done defs 𝒱 c)
  iapply Hk
  isplitl [HO]; · iexact HO
  isplitl [F3]; · iexact F3
  isplitl [F4]; · iexact F4
  isplitl [F5]; · iexact F5
  isplitl [F6]; · iexact F6
  isplitl [F7]; · iexact F7
  iexact F8

theorem part27 (c : Dev nD) {Q : _ → sProp (MT nD τ sig Unit (Elt F) ℕ UU ℕ)} :
    records m K ⊢ iprop(Owe c 12 -∗ oFl m c 9 -∗ oFl m c 10 -∗ oFl m c 11 -∗ oFl m c 12 -∗ oFl m c 13
      -∗ (iprop(Owe c 12 ∗ (semVal (oCell c 9) 0 ∗ oFull m c 9 ∗ outFull m c 9) ∗ (semVal (oCell c 10) 0 ∗ oFull m c 10 ∗ outFull m c 10)
            ∗ (semVal (oCell c 11) 0 ∗ oFull m c 11 ∗ outFull m c 11) ∗ (semVal (oCell c 12) 0 ∗ oFull m c 12 ∗ outFull m c 12)
            ∗ (semVal (oCell c 13) 0 ∗ oFull m c 13 ∗ outFull m c 13)) -∗ Q ⟨⟩)
      -∗ WP defs 𝒱 c (onBufs (k0_part27 (F := F)) c) Q) := by
  iintro #HR HO F9 F10 F11 F12 F13 Hk
  rw [k0_part27_eq_skeleton]
  unfold k0_part27_skel
  simp only [Prog.lift, Prog.bind_op, Prog.bind_ret, Prog.pure_eq_ret]
  iapply (op_putDone m K defs 𝒱 c 9 12 rfl (outSl_at _ (off16_eq c))) $$ HR HO F9
  iintro ⟨HO, F9⟩
  iapply (op_putDone m K defs 𝒱 c 10 12 rfl (outSl_at _ (off18_eq c))) $$ HR HO F10
  iintro ⟨HO, F10⟩
  iapply (op_putDone m K defs 𝒱 c 11 12 rfl (outSl_at _ (off20_eq c))) $$ HR HO F11
  iintro ⟨HO, F11⟩
  iapply (op_putDone m K defs 𝒱 c 12 12 rfl (outSl_at _ (off23y_eq c))) $$ HR HO F12
  iintro ⟨HO, F12⟩
  iapply (op_putDone m K defs 𝒱 c 13 12 rfl (outSl_at _ (off26y_eq c))) $$ HR HO F13
  iintro ⟨HO, F13⟩
  iapply (done defs 𝒱 c)
  iapply Hk
  isplitl [HO]; · iexact HO
  isplitl [F9]; · iexact F9
  isplitl [F10]; · iexact F10
  isplitl [F11]; · iexact F11
  isplitl [F12]; · iexact F12
  iexact F13

end Cert.SoftmaxProof

end
-- ==== Proof.Body.lean ====
/-
The whole kernel on one device: from its slots free, its semaphores at zero and its rights in the
protocol, to the result's pieces in place, everything else back, and nothing owed.
-/
module

public import proofs.«01_k».proof.Proof.Output

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts from and ends with -/

/-- The kernel's scratch memory, slot by slot, at any contents. -/
def Slots (c : Dev nD) : sProp 𝕄 :=
  iprop((bigSep Finset.univ fun r : Fin 4 => wFree c r) ∗ (bigSep Finset.univ fun j : Fin 8 => lFree c j) ∗ (bigSep Finset.univ fun j : Fin 8 => free c j)
    ∗ (bigSep Finset.univ fun t : Fin 16 => oFree c t) ∗ (∃ Y, owns (c : Thread nD τ) sR fullShare Y) ∗ freeS c)
/-- The semaphores of the local copies, at zero. -/
def LocSems (c : Dev nD) : sProp 𝕄 :=
  iprop((bigSep Finset.univ fun r : Fin 4 => semVal (wCell c r) 0) ∗ (bigSep Finset.univ fun t : Fin 16 => semVal (oCell c t) 0))
/-- The input and the weights. -/
def Ins (c : Dev nD) : sProp 𝕄 := iprop(xHeld m c ∗ bigSep Finset.univ fun r : Fin 4 => Wwin m c r)
/-- The device's rights: its payments, its transfers, its cells. -/
def Rights (c : Dev nD) : sProp 𝕄 :=
  iprop((bigSep Finset.univ fun i : Fin 12 => payTok c i) ∗ (bigSep Finset.univ fun j : Tr => sendTok c j) ∗ (bigSep Finset.univ fun k : Cell => pos c k))
/-- The credits of what its neighbours owe it. -/
def Credits (c : Dev nD) : sProp 𝕄 :=
  iprop(cred (tallyAt (kcell (c, none)) () 3) ∗ bigSep Finset.univ fun j : Tr => credit c (some (false, j)))

/-- What the device starts from, beside its rights. -/
def Before (c : Dev nD) : sProp 𝕄 := iprop(Slots c ∗ LocSems c ∗ Ins m c ∗ Owe c 0 ∗ bigSep Finset.univ fun t : Fin 16 => outFree c t)
/-- What it ends with. -/
def After (c : Dev nD) : sProp 𝕄 :=
  iprop(Slots c ∗ LocSems c ∗ Ins m c ∗ Owe c 12 ∗ (bigSep Finset.univ fun k : Cell => semVal (kcell (c, k)) 0) ∗ bigSep Finset.univ fun t : Fin 16 => outFull m c t)

/-! ## Families written out -/

omit [FloatOps F] in
theorem all4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem all8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem all12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
omit [FloatOps F] in
theorem all16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem allTr (Φ : Tr → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7)) :=
  bigSep_univ_eq_bigSepL [none, (some 0), (some 1), (some 2), (some 3), (some 4), (some 5), (some 6), (some 7)] (by decide) (by decide) Φ
omit [FloatOps F] in
theorem allCell (Φ : Cell → sProp 𝕄) : bigSep Finset.univ Φ = iprop(Φ none ∗ Φ (some (false, none)) ∗ Φ (some (false, some 0)) ∗ Φ (some (false, some 1)) ∗ Φ (some (false, some 2)) ∗ Φ (some (false, some 3)) ∗ Φ (some (false, some 4)) ∗ Φ (some (false, some 5)) ∗ Φ (some (false, some 6)) ∗ Φ (some (false, some 7)) ∗ Φ (some (true, none)) ∗ Φ (some (true, some 0)) ∗ Φ (some (true, some 1)) ∗ Φ (some (true, some 2)) ∗ Φ (some (true, some 3)) ∗ Φ (some (true, some 4)) ∗ Φ (some (true, some 5)) ∗ Φ (some (true, some 6)) ∗ Φ (some (true, some 7))) :=
  bigSep_univ_eq_bigSepL [none, (some (false, none)), (some (false, some 0)), (some (false, some 1)), (some (false, some 2)), (some (false, some 3)), (some (false, some 4)), (some (false, some 5)), (some (false, some 6)), (some (false, some 7)), (some (true, none)), (some (true, some 0)), (some (true, some 1)), (some (true, some 2)), (some (true, some 3)), (some (true, some 4)), (some (true, some 5)), (some (true, some 6)), (some (true, some 7))] (by decide) (by decide) Φ

/-! ## Slots given back, and places handed over -/

theorem l_free (c : Dev nD) (j : Fin 8) (h : lq j = fullShare) : lKeep m c j ⊢ lFree c j := by
  unfold lKeep lFree; rw [h]
  iintro H; iexists _; iexact H
theorem p_free (c : Dev nD) (j : Fin 8) (h : pq j = fullShare) : pKeep m c j ⊢ free c j := by
  unfold pKeep free; rw [h]
  iintro H; iexists _; iexact H
theorem l_back (c : Dev nD) (j : Fin 8) : lFull m c j ⊢ lFree c j := by
  unfold lFull lFree
  iintro H; iexists _; iexact H
theorem p_back (c : Dev nD) (j : Fin 8) : pFull m c j ⊢ free c j := by
  unfold pFull free
  iintro H; iexists _; iexact H
theorem w_back (c : Dev nD) (r : Fin 4) : wFull m c r ⊢ wFree c r := by
  unfold wFull wFree
  iintro H; iexists _; iexact H
theorem o_back (c : Dev nD) (t : Fin 16) : oFull m c t ⊢ oFree c t := by
  unfold oFull oFree
  iintro H; iexists _; iexact H
theorem s_back (c : Dev nD) : sHeld m c ⊢ iprop(∃ Y, owns (c : Thread nD τ) sR fullShare Y) := by
  unfold sHeld
  iintro H; iexists _; iexact H
theorem sp_back (c : Dev nD) : spHeld m c ⊢ freeS c := by
  unfold spHeld freeS
  iintro H; iexists _; iexact H

omit [FloatOps F] in
theorem hand0 (c : Dev nD) : iprop(free c 0 ∗ free c 1 ∗ free c 2 ∗ free c 3 ∗ freeS c) ⊢ (barPay (nb c 0) 0 : sProp 𝕄) := by
  show _ ⊢ iprop(free (xn (xn c)) 0 ∗ free (xn (xn c)) 1 ∗ free (xn (xn c)) 2 ∗ free (xn (xn c)) 3 ∗ freeS (xn (xn c)))
  rw [xn_xn]
omit [FloatOps F] in
theorem hand1 (c : Dev nD) : iprop(free c 4 ∗ free c 5) ⊢ (barPay (nb c 1) 1 : sProp 𝕄) := by
  show _ ⊢ iprop(free (yn (yn c)) 4 ∗ free (yn (yn c)) 5)
  rw [yn_yn]
omit [FloatOps F] in
theorem hand2 (c : Dev nD) : iprop(free c 6 ∗ free c 7) ⊢ (barPay (nb c 2) 2 : sProp 𝕄) := by
  show _ ⊢ iprop(free (zn (zn c)) 6 ∗ free (zn (zn c)) 7)
  rw [zn_zn]

variable (defs : Defs nD τ sig (Elt F) Λ₀) (𝒱 : Variants)

/-- The kernel on device `c`. -/
theorem sound_body (c : Dev nD) {Kt : PUnit → sProp (MT nD τ sig Unit (Elt F) ℕ UU ℕ)} :
    records m K ⊢ iprop(Before m c -∗ Rights c -∗ Credits c -∗ (After m c -∗ Kt ⟨⟩)
      -∗ WP defs 𝒱 c (onBufs (cc0_body (F := F))) Kt) := by
  unfold Before Rights Credits Slots LocSems Ins
  simp only [all4, all8, all12, all16, allTr, allCell]
  iintro #HR ⟨⟨⟨w0, w1, w2, w3⟩, ⟨l0, l1, l2, l3, l4, l5, l6, l7⟩, ⟨p0, p1, p2, p3, p4, p5, p6, p7⟩, ⟨o0, o1, o2, o3, o4, o5, o6, o7, o8, o9, o10, o11, o12, o13, o14, o15⟩, s, sp⟩, ⟨⟨wv0, wv1, wv2, wv3⟩, ⟨ov0, ov1, ov2, ov3, ov4, ov5, ov6, ov7, ov8, ov9, ov10, ov11, ov12, ov13, ov14, ov15⟩⟩, ⟨x, ⟨W0, W1, W2, W3⟩⟩, HO, ⟨u0, u1, u2, u3, u4, u5, u6, u7, u8, u9, u10, u11, u12, u13, u14, u15⟩⟩ ⟨⟨T0, T1, T2, T3, T4, T5, T6, T7, T8, T9, T10, T11⟩, ⟨Ss, S0, S1, S2, S3, S4, S5, S6, S7⟩, ⟨Pb, Prs, Pr0, Pr1, Pr2, Pr3, Pr4, Pr5, Pr6, Pr7, Pss, Ps0, Ps1, Ps2, Ps3, Ps4, Ps5, Ps6, Ps7⟩⟩ ⟨Cb, Crs, Cr0, Cr1, Cr2, Cr3, Cr4, Cr5, Cr6, Cr7⟩ Hk
  ihave B0 := (hand0 c) $$ [p0 p1 p2 p3 sp]
  · isplitl [p0]; · iexact p0
    isplitl [p1]; · iexact p1
    isplitl [p2]; · iexact p2
    isplitl [p3]; · iexact p3
    iexact sp
  ihave B1 := (hand1 c) $$ [p4 p5]
  · isplitl [p4]; · iexact p4
    iexact p5
  ihave B2 := (hand2 c) $$ [p6 p7]
  · isplitl [p6]; · iexact p6
    iexact p7
  rw [cc0_body_eq_skeleton]
  unfold cc0_body_skel
  simp only [Prog.lift, Prog.bind_op, Prog.bind_ret, Prog.pure_eq_ret, wp_bind]
  iapply (part1 m defs 𝒱 c) $$ W0 w0 wv0
  iintro %r ⟨%h, WF0⟩
  obtain ⟨d, v2, v5, v8, v10, v11, v15, v16, v17, v18, v19, v20, v21⟩ := r
  dsimp only at h
  subst d
  dsimp only
  iapply (part2 m K defs 𝒱 c _ _ _ _ _) $$ HR W1 w1 wv1 W2 w2 wv2 W3 w3 wv3 HO T0 B0 T1 B1
  iintro %r ⟨%h, HO, WF1, WF2, WF3⟩
  obtain ⟨e, e'⟩ := r
  dsimp only at h
  subst e
  dsimp only
  iapply (part3 m K defs 𝒱 c _ _ _ _ _) $$ HR HO T2 B2 x WF0 l0 l1 Cb Pb
  iintro %r ⟨%h, HO, x, wv0, w0, W0, l0, h0, l1, h1, Zb, B0, B1, B2⟩
  obtain ⟨e, e'⟩ := r
  dsimp only at h
  subst e
  dsimp only
  ihave B0 := (bar_dest0 c) $$ B0
  icases B0 with ⟨d0, d1, d2, d3, ds⟩
  ihave B1 := (bar_dest1 c) $$ B1
  icases B1 with ⟨d4, d5⟩
  ihave B2 := (bar_dest2 c) $$ B2
  icases B2 with ⟨d6, d7⟩
  iapply (part4 m K defs 𝒱 c _ _ _ _ _) $$ HR HO T3 S0 h0 d0 T4 S1 h1 d1
  iintro ⟨HO, Cs0, Cs1⟩
  iapply (part5 m K defs 𝒱 c) $$ HR HO WF1 WF2 l2 l3 l4
  iintro %r ⟨%h, HO, wv1, w1, W1, wv2, w2, W2, l2, h2, l3, h3, l4⟩
  subst r
  iapply (part6 m K defs 𝒱 c) $$ HR HO WF3 l5 l6 l7 l0 l1
  iintro %r ⟨%h, HO, wv3, w3, W3, l5, l6, l7, l0, l1⟩
  subst r
  iapply (part7 m defs 𝒱 c _) $$ l2 l3 l4 l5 l6 l7 s
  iintro %r ⟨%h, l2, l3, l4, l5, l6, l7, s⟩
  obtain ⟨e, e'⟩ := r
  dsimp only at h
  subst e
  dsimp only
  iapply (part8 m K defs 𝒱 c _ _ _ _ _) $$ HR HO T5 Ss s ds T6 S2 h2 d2
  iintro ⟨HO, Css, Cs2⟩
  iapply (part9 m K defs 𝒱 c _ _ _ _ _ _) $$ HR HO T7 S3 h3 d3 Cr0 Pr0 T8 S4 d4
  iintro ⟨HO, Cs3, Zr0, p0, h6, Cs4⟩
  iapply (part10 m K defs 𝒱 c _ _ _ _ _ _) $$ HR HO T9 S6 h6 d6 Cr1 Pr1
  iintro ⟨HO, Cs6, Zr1, p1, h5, h7⟩
  iapply (part11 m K defs 𝒱 c _ _ _ _ _ _ _) $$ HR HO T10 S5 h5 d5 T11 S7 h7 d7
  iintro %r ⟨HO, Cs5, Cs7⟩
  obtain ⟨e, e'⟩ := r
  dsimp only
  iapply (part12 m K defs 𝒱 c _ _ _ _ _ _) $$ HR HO Crs Prs l0 l1 o0 u0 ov0
  iintro %r ⟨%h, HO, Zrs, sp, l0, l1, F0⟩
  obtain ⟨e, f, g, i⟩ := r
  dsimp only at h
  obtain ⟨rfl, rfl⟩ := h
  dsimp only
  iapply (part13 m defs 𝒱 c _ _ _) $$ l2 l3 o1 u1 ov1 o2 u2 ov2
  iintro %r ⟨%h, l2, l3, F1, F2⟩
  subst r
  iapply (part14 m defs 𝒱 c _ _ _) $$ l4 o3 u3 ov3 o4 u4 ov4
  iintro ⟨l4, F3, F4⟩
  iapply (part15 m defs 𝒱 c _ _ _) $$ l5 l6 o5 u5 ov5 o6
  iintro ⟨l5, l6, F5, o6⟩
  iapply (part16 m defs 𝒱 c _ _ _ _) $$ o6 u6 ov6 l7 o7 u7 ov7 p0 o8
  iintro %r ⟨F6, l7, F7, p0, o8⟩
  iapply (part17 m defs 𝒱 c _ _ _ _ _) $$ o8 u8 ov8 p1 o9 u9 ov9
  iintro ⟨F8, p1, F9⟩
  iapply (part18 m K defs 𝒱 c _ _ _ _ _) $$ HR HO Cr2 Pr2 o10 u10 ov10
  iintro ⟨HO, Zr2, p2, F10⟩
  iapply (part19 m K defs 𝒱 c _ _ _ _ _ _ _) $$ HR HO Cr3 Pr3 o11 u11 ov11
  iintro %r ⟨HO, Zr3, p3, F11⟩
  obtain ⟨e1, e2, e3, e4, e5, e6⟩ := r
  dsimp only
  iapply (part20 m K defs 𝒱 c _ _ _ _ _ _ _) $$ HR HO Cr4 Pr4 o12 u12 ov12
  iintro ⟨HO, Zr4, p4, F12⟩
  iapply (part21 m K defs 𝒱 c _ _ _ _ _ _) $$ HR HO Cr5 Pr5 o13 u13 ov13 Cr6 Pr6
  iintro ⟨HO, Zr5, p5, F13, Zr6, p6⟩
  iapply (part22 m K defs 𝒱 c _ _ _ _ _ _) $$ HR HO p6 o14 u14 ov14 Cr7 Pr7
  iintro %r ⟨%h, HO, p6, F14, Zr7, p7⟩
  subst r
  iapply (part23 m K defs 𝒱 c _ _) $$ HR HO o15 u15 ov15 Cs0 Ps0 Cs1 Ps1
  iintro ⟨HO, F15, Zs0, h0, Zs1, h1⟩
  iapply (part24 m K defs 𝒱 c) $$ HR HO Cs2 Ps2 Cs3 Ps3 Cs4 Ps4 Cs5 Ps5
  iintro ⟨HO, ⟨Zs2, h2⟩, ⟨Zs3, h3⟩, ⟨Zs4, h4⟩, ⟨Zs5, h5⟩⟩
  iapply (part25 m K defs 𝒱 c) $$ HR HO Cs6 Ps6 Cs7 Ps7 Css Pss F0 F1 F2
  iintro ⟨HO, ⟨Zs6, h6⟩, ⟨Zs7, h7⟩, ⟨Zss, s⟩, ⟨ov0, o0, u0⟩, ⟨ov1, o1, u1⟩, ⟨ov2, o2, u2⟩⟩
  iapply (part26 m K defs 𝒱 c) $$ HR HO F3 F4 F5 F6 F7 F8
  iintro ⟨HO, ⟨ov3, o3, u3⟩, ⟨ov4, o4, u4⟩, ⟨ov5, o5, u5⟩, ⟨ov6, o6, u6⟩, ⟨ov7, o7, u7⟩, ⟨ov8, o8, u8⟩⟩
  iapply (part27 m K defs 𝒱 c) $$ HR HO F9 F10 F11 F12 F13
  iintro ⟨HO, ⟨ov9, o9, u9⟩, ⟨ov10, o10, u10⟩, ⟨ov11, o11, u11⟩, ⟨ov12, o12, u12⟩, ⟨ov13, o13, u13⟩⟩
  iapply (op_putDone m K defs 𝒱 c 14 12 rfl (outSl_at _ (off23z_eq c))) $$ HR HO F14
  iintro ⟨HO, ov14, o14, u14⟩
  iapply (op_putDone m K defs 𝒱 c 15 12 rfl (outSl_at _ (off26z_eq c))) $$ HR HO F15
  iintro ⟨HO, ov15, o15, u15⟩
  iapply (done defs 𝒱 c)
  iapply Hk
  ihave l0 := (l_join0 m c) $$ [l0 h0]
  · isplitl [l0]; · iexact l0
    iexact h0
  ihave l0 := (l_back m c 0) $$ l0
  ihave l1 := (l_join1 m c) $$ [l1 h1]
  · isplitl [l1]; · iexact l1
    iexact h1
  ihave l1 := (l_back m c 1) $$ l1
  ihave l2 := (l_join2 m c) $$ [l2 h2]
  · isplitl [l2]; · iexact l2
    iexact h2
  ihave l2 := (l_back m c 2) $$ l2
  ihave l3 := (l_join3 m c) $$ [l3 h3]
  · isplitl [l3]; · iexact l3
    iexact h3
  ihave l3 := (l_back m c 3) $$ l3
  ihave l4 := (l_free m c 4 rfl) $$ l4
  ihave l5 := (l_free m c 5 rfl) $$ l5
  ihave l6 := (l_free m c 6 rfl) $$ l6
  ihave l7 := (l_free m c 7 rfl) $$ l7
  ihave p0 := (p_join0 m c) $$ [p0 h4 h6]
  · isplitl [p0]; · iexact p0
    isplitl [h4]; · iexact h4
    iexact h6
  ihave p0 := (p_back m c 0) $$ p0
  ihave p1 := (p_join1 m c) $$ [p1 h5 h7]
  · isplitl [p1]; · iexact p1
    isplitl [h5]; · iexact h5
    iexact h7
  ihave p1 := (p_back m c 1) $$ p1
  ihave p2 := (p_free m c 2 rfl) $$ p2
  ihave p3 := (p_free m c 3 rfl) $$ p3
  ihave p4 := (p_free m c 4 rfl) $$ p4
  ihave p5 := (p_free m c 5 rfl) $$ p5
  ihave p6 := (p_free m c 6 rfl) $$ p6
  ihave p7 := (p_free m c 7 rfl) $$ p7
  ihave w0 := (w_back m c 0) $$ w0
  ihave w1 := (w_back m c 1) $$ w1
  ihave w2 := (w_back m c 2) $$ w2
  ihave w3 := (w_back m c 3) $$ w3
  ihave o0 := (o_back m c 0) $$ o0
  ihave o1 := (o_back m c 1) $$ o1
  ihave o2 := (o_back m c 2) $$ o2
  ihave o3 := (o_back m c 3) $$ o3
  ihave o4 := (o_back m c 4) $$ o4
  ihave o5 := (o_back m c 5) $$ o5
  ihave o6 := (o_back m c 6) $$ o6
  ihave o7 := (o_back m c 7) $$ o7
  ihave o8 := (o_back m c 8) $$ o8
  ihave o9 := (o_back m c 9) $$ o9
  ihave o10 := (o_back m c 10) $$ o10
  ihave o11 := (o_back m c 11) $$ o11
  ihave o12 := (o_back m c 12) $$ o12
  ihave o13 := (o_back m c 13) $$ o13
  ihave o14 := (o_back m c 14) $$ o14
  ihave o15 := (o_back m c 15) $$ o15
  ihave s := (s_back m c) $$ s
  ihave sp := (sp_back m c) $$ sp
  unfold After Slots LocSems Ins
  simp only [all4, all8, all16, allCell]
  isplitl [w0 w1 w2 w3 l0 l1 l2 l3 l4 l5 l6 l7 p0 p1 p2 p3 p4 p5 p6 p7 o0 o1 o2 o3 o4 o5 o6 o7 o8 o9 o10 o11 o12 o13 o14 o15 s sp]
  · isplitl [w0 w1 w2 w3]
    · isplitl [w0]; · iexact w0
      isplitl [w1]; · iexact w1
      isplitl [w2]; · iexact w2
      iexact w3
    isplitl [l0 l1 l2 l3 l4 l5 l6 l7]
    · isplitl [l0]; · iexact l0
      isplitl [l1]; · iexact l1
      isplitl [l2]; · iexact l2
      isplitl [l3]; · iexact l3
      isplitl [l4]; · iexact l4
      isplitl [l5]; · iexact l5
      isplitl [l6]; · iexact l6
      iexact l7
    isplitl [p0 p1 p2 p3 p4 p5 p6 p7]
    · isplitl [p0]; · iexact p0
      isplitl [p1]; · iexact p1
      isplitl [p2]; · iexact p2
      isplitl [p3]; · iexact p3
      isplitl [p4]; · iexact p4
      isplitl [p5]; · iexact p5
      isplitl [p6]; · iexact p6
      iexact p7
    isplitl [o0 o1 o2 o3 o4 o5 o6 o7 o8 o9 o10 o11 o12 o13 o14 o15]
    · isplitl [o0]; · iexact o0
      isplitl [o1]; · iexact o1
      isplitl [o2]; · iexact o2
      isplitl [o3]; · iexact o3
      isplitl [o4]; · iexact o4
      isplitl [o5]; · iexact o5
      isplitl [o6]; · iexact o6
      isplitl [o7]; · iexact o7
      isplitl [o8]; · iexact o8
      isplitl [o9]; · iexact o9
      isplitl [o10]; · iexact o10
      isplitl [o11]; · iexact o11
      isplitl [o12]; · iexact o12
      isplitl [o13]; · iexact o13
      isplitl [o14]; · iexact o14
      iexact o15
    isplitl [s]; · iexact s
    iexact sp
  isplitl [wv0 wv1 wv2 wv3 ov0 ov1 ov2 ov3 ov4 ov5 ov6 ov7 ov8 ov9 ov10 ov11 ov12 ov13 ov14 ov15]
  · isplitl [wv0 wv1 wv2 wv3]
    · isplitl [wv0]; · iexact wv0
      isplitl [wv1]; · iexact wv1
      isplitl [wv2]; · iexact wv2
      iexact wv3
    isplitl [ov0]; · iexact ov0
    isplitl [ov1]; · iexact ov1
    isplitl [ov2]; · iexact ov2
    isplitl [ov3]; · iexact ov3
    isplitl [ov4]; · iexact ov4
    isplitl [ov5]; · iexact ov5
    isplitl [ov6]; · iexact ov6
    isplitl [ov7]; · iexact ov7
    isplitl [ov8]; · iexact ov8
    isplitl [ov9]; · iexact ov9
    isplitl [ov10]; · iexact ov10
    isplitl [ov11]; · iexact ov11
    isplitl [ov12]; · iexact ov12
    isplitl [ov13]; · iexact ov13
    isplitl [ov14]; · iexact ov14
    iexact ov15
  isplitl [x W0 W1 W2 W3]
  · isplitl [x]; · iexact x
    isplitl [W0]; · iexact W0
    isplitl [W1]; · iexact W1
    isplitl [W2]; · iexact W2
    iexact W3
  isplitl [HO]; · iexact HO
  isplitl [Zb Zrs Zr0 Zr1 Zr2 Zr3 Zr4 Zr5 Zr6 Zr7 Zss Zs0 Zs1 Zs2 Zs3 Zs4 Zs5 Zs6 Zs7]
  · isplitl [Zb]; · iexact Zb
    isplitl [Zrs]; · iexact Zrs
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zss]; · iexact Zss
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    iexact Zs7
  isplitl [u0]; · iexact u0
  isplitl [u1]; · iexact u1
  isplitl [u2]; · iexact u2
  isplitl [u3]; · iexact u3
  isplitl [u4]; · iexact u4
  isplitl [u5]; · iexact u5
  isplitl [u6]; · iexact u6
  isplitl [u7]; · iexact u7
  isplitl [u8]; · iexact u8
  isplitl [u9]; · iexact u9
  isplitl [u10]; · iexact u10
  isplitl [u11]; · iexact u11
  isplitl [u12]; · iexact u12
  isplitl [u13]; · iexact u13
  isplitl [u14]; · iexact u14
  iexact u15

end Cert.SoftmaxProof

end
-- ==== Proof.Whole.lean ====
/-
Whole buffers as their slots, windows and chunks, and back.
-/
module

public import proofs.«01_k».proof.Proof.Body

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A buffer cut into rectangles -/

/-- Contents given rectangle by rectangle are contents of the whole. -/
theorem glue {T : Type} {s : Shape} {α : Type} [Nonempty α] (r : T → Rect s) (hd : ∀ t t', t ≠ t' → Disjoint (r t).set (r t').set)
    (Y : (t : T) → (r t).shape.Idx → α) : ∃ X : s.Idx → α, ∀ t j, X ((r t).emb j) = Y t j := by
  classical
  refine ⟨fun i => if h : ∃ p : (t : T) × (r t).shape.Idx, (r p.1).emb p.2 = i then Y h.choose.1 h.choose.2 else Classical.arbitrary α, fun t j => ?_⟩
  have h : ∃ p : (t : T) × (r t).shape.Idx, (r p.1).emb p.2 = (r t).emb j := ⟨⟨t, j⟩, rfl⟩
  have hp : h.choose = ⟨t, j⟩ := by
    have he := h.choose_spec
    generalize h.choose = p at he
    obtain ⟨t', j'⟩ := p
    have ht : t' = t := by
      by_contra hne
      have h1 : (r t).emb j ∈ (r t).set := by rw [← Rect.map_emb_univ]; exact Finset.mem_map_of_mem _ (Finset.mem_univ j)
      have h2 : (r t).emb j ∈ (r t').set := by rw [← he, ← Rect.map_emb_univ]; exact Finset.mem_map_of_mem _ (Finset.mem_univ j')
      exact Finset.disjoint_left.mp (hd t' t hne) h2 h1
    subst ht
    exact congrArg (Sigma.mk t') ((r t').emb.injective he)
  dsimp only
  rw [dif_pos h, hp]

section Cut
variable {T : Type} [Fintype T] [DecidableEq T] (c : Dev nD) {sp : Space} {s : Shape} {e : EltTy} (M : Memref sig .tc sp s e) (r : T → Rect s) (hr : ∀ t a, (r t).stride a = 1)
  (hd : ∀ t t', t ≠ t' → Disjoint (r t).set (r t').set) (hcov : (Finset.univ : Finset T).biUnion (fun t => (r t).set) = Finset.univ)
include hd hcov

theorem rects_split : (iprop(∃ X, owns (c : Thread nD τ) M fullShare X) : sProp 𝕄)
    ⊢ bigSep Finset.univ fun t => iprop(∃ Y, owns (c : Thread nD τ) (M.slice (r t) (hr t)) fullShare Y) := by
  iintro ⟨%X, H⟩
  ihave H := (owns_rects (c : Thread nD τ) M fullShare r hr hd hcov X) $$ H
  iapply (show (bigSep Finset.univ fun t => (owns (c : Thread nD τ) (M.slice (r t) (hr t)) fullShare (fun j => X ((r t).emb j)) : sProp 𝕄)) ⊢ bigSep Finset.univ fun t => iprop(∃ Y, owns (c : Thread nD τ) (M.slice (r t) (hr t)) fullShare Y) from bigSep_mono (s := Finset.univ) (fun t _ => show (owns (c : Thread nD τ) (M.slice (r t) (hr t)) fullShare (fun j => X ((r t).emb j)) : sProp 𝕄)
    ⊢ iprop(∃ Y, owns (c : Thread nD τ) (M.slice (r t) (hr t)) fullShare Y) from by iintro H; iexists _; iexact H))
  iexact H

/-- The rectangles at known contents are the whole at contents that agree on each. -/
theorem rects_glue (Y : (t : T) → (r t).shape.Idx → Elt F e) :
    (bigSep Finset.univ fun t => owns (c : Thread nD τ) (M.slice (r t) (hr t)) fullShare (Y t))
      ⊢ (iprop(∃ X, ⌜∀ t j, X ((r t).emb j) = Y t j⌝ ∗ owns (c : Thread nD τ) M fullShare X) : sProp 𝕄) := by
  obtain ⟨X, hX⟩ := glue r hd Y
  rw [show (fun t => (owns (c : Thread nD τ) (M.slice (r t) (hr t)) fullShare (Y t) : sProp 𝕄))
    = fun t => owns (c : Thread nD τ) (M.slice (r t) (hr t)) fullShare (fun j => X ((r t).emb j)) from
      funext fun t => congrArg _ (funext fun j => (hX t j).symm)]
  iintro H
  ihave H := (owns_of_rects (c : Thread nD τ) M fullShare r hr hd hcov X) $$ H
  iexists X
  isplitr; · ipureintro; exact hX
  iexact H

theorem rects_join : (bigSep Finset.univ fun t => iprop(∃ Y, owns (c : Thread nD τ) (M.slice (r t) (hr t)) fullShare Y))
    ⊢ (iprop(∃ X, owns (c : Thread nD τ) M fullShare X) : sProp 𝕄) := by
  iintro H
  ihave H := (BI.bigSep_exists_pi Finset.univ (fun t Y => (owns (c : Thread nD τ) (M.slice (r t) (hr t)) fullShare Y : sProp 𝕄))) $$ H
  icases H with ⟨%Y, H⟩
  ihave H := (rects_glue c M r hr hd hcov Y) $$ H
  icases H with ⟨%X, -, H⟩
  iexists X; iexact H

end Cut

theorem owns_buf (c : Dev nD) (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) :=
  congrArg _ (funext fun f => owns_whole (c : Thread nD τ) b fullShare f)

/-! ## The kernel's families of rectangles -/

/-- Rectangles one deep on an axis, one per coordinate of it, and whole on the others, cut a buffer up. -/
theorem cut_disjoint {n : ℕ} {s : Shape} (r : Fin n → Rect s) (a : Fin s.rank) (w : ℕ) (hw : ∀ t i, i ∈ (r t).set → w * t.val ≤ (i a).val ∧ (i a).val < w * t.val + w)
    (t t' : Fin n) (h : t ≠ t') : Disjoint (r t).set (r t').set := by
  rw [Finset.disjoint_left]
  intro i hi hi'
  have h1 := hw t i hi
  have h2 := hw t' i hi'
  apply h
  apply Fin.ext
  rcases Nat.lt_trichotomy t.val t'.val with hlt | heq | hgt
  · have : w * (t.val + 1) ≤ w * t'.val := Nat.mul_le_mul_left w hlt
    rw [Nat.mul_add, Nat.mul_one] at this; omega
  · exact heq
  · have : w * (t'.val + 1) ≤ w * t.val := Nat.mul_le_mul_left w hgt
    rw [Nat.mul_add, Nat.mul_one] at this; omega
theorem cut_covers {n : ℕ} {s : Shape} (r : Fin n → Rect s) (g : s.Idx → Fin n) (hg : ∀ i, i ∈ (r (g i)).set) :
    (Finset.univ : Finset (Fin n)).biUnion (fun t => (r t).set) = Finset.univ :=
  Finset.eq_univ_iff_forall.mpr fun i => Finset.mem_biUnion.mpr ⟨g i, Finset.mem_univ _, hg i⟩

theorem w_disjoint : ∀ t t', t ≠ t' → Disjoint (wRect t).set (wRect t').set :=
  cut_disjoint _ 0 1 fun t i hi => by have := Rect.mem_set_unit.mp hi 0; simpa using this
theorem c_disjoint : ∀ t t', t ≠ t' → Disjoint (cRect t).set (cRect t').set :=
  cut_disjoint _ 0 1 fun t i hi => by have := Rect.mem_set_unit.mp hi 0; simpa using this
theorem o_disjoint : ∀ t t', t ≠ t' → Disjoint (oRect t).set (oRect t').set :=
  cut_disjoint _ 0 1 fun t i hi => by have := Rect.mem_set_unit.mp hi 0; simpa using this
theorem W_disjoint : ∀ t t', t ≠ t' → Disjoint (WRect t).set (WRect t').set :=
  cut_disjoint _ 1 1024 fun t i hi => by have := Rect.mem_set_unit.mp hi 1; simpa using this
theorem out_disjoint : ∀ t t', t ≠ t' → Disjoint (outRect t).set (outRect t').set :=
  cut_disjoint _ 1 512 fun t i hi => by have := Rect.mem_set_unit.mp hi 1; simpa using this

theorem w_covers : (Finset.univ : Finset (Fin 4)).biUnion (fun t => (wRect t).set) = Finset.univ :=
  cut_covers _ (fun i => ⟨(i 0).val, (i 0).isLt⟩) fun i => Rect.mem_set_unit.mpr fun a => by
    have h1 : (i 1).val < 512 := (i 1).isLt
    have h2 : (i 2).val < 1024 := (i 2).isLt
    fin_cases a
    · exact ⟨Nat.le_refl _, Nat.lt_succ_self _⟩
    · exact ⟨Nat.zero_le _, by show (i 1).val < 0 + 512; omega⟩
    · exact ⟨Nat.zero_le _, by show (i 2).val < 0 + 1024; omega⟩
theorem c_covers : (Finset.univ : Finset (Fin 8)).biUnion (fun t => (cRect t).set) = Finset.univ :=
  cut_covers _ (fun i => ⟨(i 0).val, (i 0).isLt⟩) fun i => Rect.mem_set_unit.mpr fun a => by
    have h1 : (i 1).val < 256 := (i 1).isLt
    have h2 : (i 2).val < 512 := (i 2).isLt
    fin_cases a
    · exact ⟨Nat.le_refl _, Nat.lt_succ_self _⟩
    · exact ⟨Nat.zero_le _, by show (i 1).val < 0 + 256; omega⟩
    · exact ⟨Nat.zero_le _, by show (i 2).val < 0 + 512; omega⟩
theorem o_covers : (Finset.univ : Finset (Fin 16)).biUnion (fun t => (oRect t).set) = Finset.univ :=
  cut_covers _ (fun i => ⟨(i 0).val, (i 0).isLt⟩) fun i => Rect.mem_set_unit.mpr fun a => by
    have h1 : (i 1).val < 256 := (i 1).isLt
    have h2 : (i 2).val < 512 := (i 2).isLt
    fin_cases a
    · exact ⟨Nat.le_refl _, Nat.lt_succ_self _⟩
    · exact ⟨Nat.zero_le _, by show (i 1).val < 0 + 256; omega⟩
    · exact ⟨Nat.zero_le _, by show (i 2).val < 0 + 512; omega⟩
theorem W_covers : (Finset.univ : Finset (Fin 4)).biUnion (fun t => (WRect t).set) = Finset.univ :=
  cut_covers _ (fun i => ⟨(i 1).val / 1024, by have : (i 1).val < 4096 := (i 1).isLt; omega⟩) fun i => Rect.mem_set_unit.mpr fun a => by
    have h0 : (i 0).val < 512 := (i 0).isLt
    have h1 : (i 1).val < 4096 := (i 1).isLt
    fin_cases a
    · exact ⟨Nat.zero_le _, by show (i 0).val < 0 + 512; omega⟩
    · constructor
      · show 1024 * ((i 1).val / 1024) ≤ (i 1).val; omega
      · show (i 1).val < 1024 * ((i 1).val / 1024) + 1024; omega
theorem out_covers : (Finset.univ : Finset (Fin 16)).biUnion (fun t => (outRect t).set) = Finset.univ :=
  cut_covers _ (fun i => ⟨(i 1).val / 512, by have : (i 1).val < 8192 := (i 1).isLt; omega⟩) fun i => Rect.mem_set_unit.mpr fun a => by
    have h0 : (i 0).val < 256 := (i 0).isLt
    have h1 : (i 1).val < 8192 := (i 1).isLt
    fin_cases a
    · exact ⟨Nat.zero_le _, by show (i 0).val < 0 + 256; omega⟩
    · constructor
      · show 512 * ((i 1).val / 512) ≤ (i 1).val; omega
      · show (i 1).val < 512 * ((i 1).val / 512) + 512; omega

/-! ## Reindexed: slots by the transfer that fills them, windows by the turn, chunks by the piece -/

def slotE (c : Dev nD) : Fin 8 ≃ Fin 8 := Equiv.ofBijective (slot c) ⟨slot_injective c, slot_surjective c⟩
def qdE (c : Dev nD) : Fin 4 ≃ Fin 4 := Equiv.ofBijective (qd c) ⟨qd_injective c, qd_surjective c⟩
def wcolE (c : Dev nD) : Fin 16 ≃ Fin 16 := Equiv.ofBijective (wcol c) ⟨wcol_injective c, wcol_surjective c⟩

/-- Some contents of a buffer. -/
abbrev anyBuf (c : Dev nD) (b : Ref sig .tc) : sProp 𝕄 := iprop(∃ f : Buf (Elt F) ((c : Thread nD τ).loc b), ((c : Thread nD τ).loc b) ↦{fullShare} f)

theorem w_split (c : Dev nD) : (anyBuf c cc0_scratch0 : sProp 𝕄) ⊢ bigSep Finset.univ fun r : Fin 4 => wFree c r := by
  unfold anyBuf; rw [← owns_buf]; exact rects_split c wR wRect (fun _ _ => rfl) w_disjoint w_covers
theorem w_join (c : Dev nD) : (bigSep Finset.univ fun r : Fin 4 => wFree c r) ⊢ (anyBuf c cc0_scratch0 : sProp 𝕄) := by
  unfold anyBuf; rw [← owns_buf]; exact rects_join c wR wRect (fun _ _ => rfl) w_disjoint w_covers
theorem l_split (c : Dev nD) : (anyBuf c cc0_scratch1 : sProp 𝕄) ⊢ bigSep Finset.univ fun j : Fin 8 => lFree c j := by
  unfold anyBuf; rw [← owns_buf]; exact rects_split c lR cRect (fun _ _ => rfl) c_disjoint c_covers
theorem l_join (c : Dev nD) : (bigSep Finset.univ fun j : Fin 8 => lFree c j) ⊢ (anyBuf c cc0_scratch1 : sProp 𝕄) := by
  unfold anyBuf; rw [← owns_buf]; exact rects_join c lR cRect (fun _ _ => rfl) c_disjoint c_covers
theorem p_split (c : Dev nD) : (anyBuf c cc0_scratch2 : sProp 𝕄) ⊢ bigSep Finset.univ fun j : Fin 8 => free c j := by
  unfold anyBuf; rw [← owns_buf]
  refine (rects_split c pR cRect (fun _ _ => rfl) c_disjoint c_covers).trans (BIBase.Entails.of_eq ?_)
  exact bigSep_univ_equiv (slotE c) fun k => iprop(∃ Y, owns (c : Thread nD τ) (pSl k) fullShare Y)
theorem p_join (c : Dev nD) : (bigSep Finset.univ fun j : Fin 8 => free c j) ⊢ (anyBuf c cc0_scratch2 : sProp 𝕄) := by
  unfold anyBuf; rw [← owns_buf]
  refine BIBase.Entails.trans (BIBase.Entails.of_eq ?_) (rects_join c pR cRect (fun _ _ => rfl) c_disjoint c_covers)
  exact (bigSep_univ_equiv (slotE c) fun k => iprop(∃ Y, owns (c : Thread nD τ) (pSl k) fullShare Y)).symm
theorem o_split (c : Dev nD) : (anyBuf c cc0_scratch3 : sProp 𝕄) ⊢ bigSep Finset.univ fun t : Fin 16 => oFree c t := by
  unfold anyBuf; rw [← owns_buf]; exact rects_split c oR oRect (fun _ _ => rfl) o_disjoint o_covers
theorem o_join (c : Dev nD) : (bigSep Finset.univ fun t : Fin 16 => oFree c t) ⊢ (anyBuf c cc0_scratch3 : sProp 𝕄) := by
  unfold anyBuf; rw [← owns_buf]; exact rects_join c oR oRect (fun _ _ => rfl) o_disjoint o_covers

/-- The scratch buffers are the slots. -/
theorem slots_split (c : Dev nD) : iprop(anyBuf c cc0_scratch0 ∗ anyBuf c cc0_scratch1 ∗ anyBuf c cc0_scratch2 ∗ anyBuf c cc0_scratch3 ∗ anyBuf c cc0_scratch4 ∗ anyBuf c cc0_scratch5)
    ⊢ (Slots c : sProp 𝕄) := by
  unfold Slots freeS
  iintro ⟨H0, H1, H2, H3, H4, H5⟩
  ihave H0 := (w_split c) $$ H0
  ihave H1 := (l_split c) $$ H1
  ihave H2 := (p_split c) $$ H2
  ihave H3 := (o_split c) $$ H3
  ihave H4 := (BIBase.Entails.of_eq (owns_buf c cc0_scratch4).symm) $$ H4
  ihave H5 := (BIBase.Entails.of_eq (owns_buf c cc0_scratch5).symm) $$ H5
  isplitl [H0]; · iexact H0
  isplitl [H1]; · iexact H1
  isplitl [H2]; · iexact H2
  isplitl [H3]; · iexact H3
  isplitl [H4]; · iexact H4
  iexact H5
theorem slots_join (c : Dev nD) : (Slots c : sProp 𝕄)
    ⊢ iprop(anyBuf c cc0_scratch0 ∗ anyBuf c cc0_scratch1 ∗ anyBuf c cc0_scratch2 ∗ anyBuf c cc0_scratch3 ∗ anyBuf c cc0_scratch4 ∗ anyBuf c cc0_scratch5) := by
  unfold Slots freeS
  iintro ⟨H0, H1, H2, H3, H4, H5⟩
  ihave H0 := (w_join c) $$ H0
  ihave H1 := (l_join c) $$ H1
  ihave H2 := (p_join c) $$ H2
  ihave H3 := (o_join c) $$ H3
  ihave H4 := (BIBase.Entails.of_eq (owns_buf c cc0_scratch4)) $$ H4
  ihave H5 := (BIBase.Entails.of_eq (owns_buf c cc0_scratch5)) $$ H5
  isplitl [H0]; · iexact H0
  isplitl [H1]; · iexact H1
  isplitl [H2]; · iexact H2
  isplitl [H3]; · iexact H3
  isplitl [H4]; · iexact H4
  iexact H5

variable (m : (ℓ : Loc nD τ sig) → Buf (Elt F) ℓ)

/-- The weights are their windows. -/
theorem weights_eq (c : Dev nD) : (((c : Thread nD τ).loc main_arg1) ↦{fullShare} m ((c : Thread nD τ).loc main_arg1) : sProp 𝕄)
    = bigSep Finset.univ fun r : Fin 4 => Wwin m c r := by
  have h := pointsTo_rects (nD := nD) (τ := τ) (Ix := Unit) (Name := ℕ) (U := UU) (Lvl := ℕ) (c : Thread nD τ) WR fullShare WRect (fun _ _ => rfl) W_disjoint W_covers (m ((c : Thread nD τ).loc main_arg1))
  rw [View.set_whole] at h
  refine h.trans ?_
  exact bigSep_univ_equiv (qdE c) fun q => owns (c : Thread nD τ) (WSl q) fullShare ((WSl q).view.read (Elt F) (m ((c : Thread nD τ).loc main_arg1)))

/-- What the result holds at the end: each piece in its chunk of columns. -/
def Result (c : Dev nD) (f : Buf (Elt F) ((c : Thread nD τ).loc main_v1)) : Prop :=
  ∀ (t : Fin 16) (j : S256x512.Idx), f ((outRect (wcol c t)).emb j) = sq (F := F) squeezes_S1x256x512_S256x512 (ov m c t) j

theorem result_split (c : Dev nD) : (anyBuf c main_v1 : sProp 𝕄) ⊢ bigSep Finset.univ fun t : Fin 16 => outFree c t := by
  unfold anyBuf; rw [← owns_buf]
  refine (rects_split c outR outRect (fun _ _ => rfl) out_disjoint out_covers).trans (BIBase.Entails.of_eq ?_)
  exact bigSep_univ_equiv (wcolE c) fun k => iprop(∃ Y, owns (c : Thread nD τ) (outSl k) fullShare Y)

theorem result_join (c : Dev nD) : (bigSep Finset.univ fun t : Fin 16 => outFull m c t)
    ⊢ (iprop(∃ f : Buf (Elt F) ((c : Thread nD τ).loc main_v1), ⌜Result m c f⌝ ∗ ((c : Thread nD τ).loc main_v1) ↦{fullShare} f) : sProp 𝕄) := by
  have hd : ∀ t t', t ≠ t' → Disjoint (outRect (wcol c t)).set (outRect (wcol c t')).set := fun t t' h => out_disjoint _ _ fun he => h (wcol_injective c he)
  have hcov : (Finset.univ : Finset (Fin 16)).biUnion (fun t => (outRect (wcol c t)).set) = Finset.univ :=
    Finset.eq_univ_iff_forall.mpr fun i => by
      obtain ⟨k, -, hk⟩ := Finset.mem_biUnion.mp (out_covers.symm ▸ Finset.mem_univ i)
      obtain ⟨t, rfl⟩ := wcol_surjective c k
      exact Finset.mem_biUnion.mpr ⟨t, Finset.mem_univ _, hk⟩
  unfold outFull
  iintro H
  ihave H := (rects_glue c outR (fun t => outRect (wcol c t)) (fun _ _ => rfl) hd hcov (fun t => sq (F := F) squeezes_S1x256x512_S256x512 (ov m c t))) $$ H
  icases H with ⟨%X, %hX, H⟩
  iexists X
  isplitr; · ipureintro; exact hX
  iapply (BIBase.Entails.of_eq (owns_whole (c : Thread nD τ) main_v1 fullShare X))
  iexact H

end Cert.SoftmaxProof

end
-- ==== Proof.Ghost.lean ====
/-
The start of the run: the semaphores of every device put under invariants together, the rights to pay
dealt to the devices that pay, the credits to the devices that are paid.
-/
module

public import proofs.«01_k».proof.Proof.Whole

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The semaphores -/

/-- The kernel's own semaphores: of its local copies, and of its transfers. -/
abbrev Own : Type := (Fin 4 ⊕ Fin 16) ⊕ (Bool × Tr)
def osem : Own → SemLoc sig
  | .inl (.inl r) => .dma (wS r)
  | .inl (.inr t) => .dma (oS t)
  | .inr x => csem (some x)

set_option maxRecDepth 8000 in
theorem ownSemFacts : Pipeline.OwnSemFacts cfg0.spec osem := by decide +kernel

omit [FloatOps F] in
theorem both {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
omit [FloatOps F] in
theorem option_split {α : Type} [Fintype α] (Φ : Option α → sProp 𝕄) : bigSep Finset.univ Φ = iprop(Φ none ∗ bigSep Finset.univ fun x => Φ (some x)) := by
  rw [bigSep_univ_equiv (Equiv.optionEquivSumPUnit.{0, 0} α).symm Φ, both, show (Finset.univ : Finset PUnit.{1}) = {PUnit.unit} from rfl, bigSep_singleton]
  show iprop((bigSep Finset.univ fun a : α => Φ (some a)) ∗ Φ none) = _
  refine BI.equiv_iff.mp ⟨show (_ : sProp 𝕄) ⊢ _ from ?_, show (_ : sProp 𝕄) ⊢ _ from ?_⟩ <;>
  · iintro ⟨H1, H2⟩
    isplitl [H2]; · iexact H2
    iexact H1
omit [FloatOps F] in
theorem cells_option (Φ : Cell → sProp 𝕄) : bigSep Finset.univ Φ = iprop(Φ none ∗ bigSep Finset.univ fun x : Bool × Tr => Φ (some x)) :=
  option_split Φ

omit [FloatOps F] in
theorem unscoped_eq (c : Dev nD) : (unscopedSems0 c : sProp 𝕄) = semVal (kcell (c, none)) 0 := by
  unfold unscopedSems0; rw [bigSep_eq_bigSepL_of_eq [SemLoc.reg barS] (by decide) (by decide)]; rfl

omit [FloatOps F] in
/-- All the semaphores a device has: the local copies' and the cells'. -/
theorem sems_eq (c : Dev nD) :
    iprop(Pipeline.ownSems0 (Ix := Unit) (Name := ℕ) (U := UU) (Lvl := ℕ) (Val := Elt F) (τ := τ) osem c ∗ unscopedSems0 c)
      = (iprop(LocSems c ∗ bigSep Finset.univ fun k : Cell => semVal (kcell (c, k)) 0) : sProp 𝕄) := by
  unfold Pipeline.ownSems0 LocSems
  rw [both, both, cells_option, unscoped_eq]
  refine BI.equiv_iff.mp ⟨show (_ : sProp 𝕄) ⊢ _ from ?_, show (_ : sProp 𝕄) ⊢ _ from ?_⟩
  · iintro ⟨⟨⟨H1, H2⟩, H3⟩, H4⟩
    isplitl [H1 H2]; · (isplitl [H1]; · iexact H1); iexact H2
    isplitl [H4]; · iexact H4
    iexact H3
  · iintro ⟨⟨H1, H2⟩, H4, H3⟩
    isplitr [H4]
    · isplitl [H1 H2]; · (isplitl [H1]; · iexact H1); iexact H2
      iexact H3
    iexact H4

/-! ## The tokens -/

/-- A device's tokens as minted: one for each payment into its cells, one for each of its own transfers. -/
abbrev Tok : Type := Fin 12 ⊕ Tr
def tokK : Tok → Cell × Fin 3
  | .inl i => (payK i, payDuty i)
  | .inr j => (some (true, j), 0)
theorem tokK_injective : Function.Injective tokK := by decide
def tokOf (x : Dev nD × Tok) : GSem nD τ sig × ℕ × Fin 3 := (kcell (x.1, (tokK x.2).1), 0, (tokK x.2).2)
theorem tokOf_injective : Function.Injective tokOf := by
  rintro ⟨c, x⟩ ⟨c', x'⟩ h
  have h1 := kcell_injective (congrArg Prod.fst h)
  have h2 : (tokK x).2 = (tokK x').2 := congrArg (fun y : GSem nD τ sig × ℕ × Fin 3 => y.2.2) h
  have h3 : x = x' := tokK_injective (Prod.ext (congrArg Prod.snd h1) h2)
  rw [h3, show c = c' from congrArg Prod.fst h1]

def meshCells : Finset (GSem nD τ sig) := Finset.univ.map ⟨kcell, kcell_injective⟩
def meshToks : Finset (GSem nD τ sig × ℕ × Fin 3) := Finset.univ.map ⟨tokOf, tokOf_injective⟩

/-- The ghost state at launch: the pipeline's, the mesh protocol's, no counter. -/
def u₀ : UU := (initOf (Pipeline.cells cfgs cellOf_inj) (Pipeline.launchToks cfgs cellOf_inj), (initOf meshCells meshToks, (1 : Counters)))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens for payments into device `c`'s cells, and for its own transfers. -/
def minted (c : Dev nD) : sProp 𝕄 :=
  iprop((bigSep Finset.univ fun i : Fin 12 => dutyTok ER (kcell (c, payK i)) 0 (payDuty i)) ∗ bigSep Finset.univ fun j : Tr => sendTok c j)
/-- The tokens for device `c`'s payments, and for its own transfers. -/
def dealt (c : Dev nD) : sProp 𝕄 := iprop((bigSep Finset.univ fun i : Fin 12 => payTok c i) ∗ bigSep Finset.univ fun j : Tr => sendTok c j)

/-- What the launch deals a device. -/
def G (c : Dev nD) : sProp 𝕄 :=
  iprop((bigSep Finset.univ fun k : Cell => roundState ER (sched m) (kcell (c, k)) 0)
    ∗ ((bigSep Finset.univ fun k : Cell => pos c k) ∗ bigSep Finset.univ fun k : Cell => reached ER (kcell (c, k)) 0) ∗ minted c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Cell => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => minted c := by
    unfold meshToks; rw [bigSep_map, bigSep_univ_prod]
    exact bigSep_congr fun c _ => by unfold minted; rw [both]; rfl
  iintro HX
  imod (Rounds.fund ER (sched m) meshCells meshToks) $$ HX with ⟨Hst, Hr, Hat, Htok⟩
  imodintro
  ihave Hst' := (BIBase.Entails.of_eq (hX fun g => roundState ER (sched m) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G pos; simp only [bigSep_sep']
  isplitl [Hst']; · iexact Hst'
  isplitl [Hat' Hr']
  · isplitl [Hat'] <;> iassumption
  iexact Htok'

/-- The tokens dealt to the devices that pay. -/
theorem toks_around : (bigSep Finset.univ fun c : Dev nD => (minted c : sProp 𝕄)) = bigSep Finset.univ fun c : Dev nD => dealt c := by
  unfold minted dealt
  rw [bigSep_sep', bigSep_sep', bigSep_univ_comm, bigSep_univ_comm (fun (c : Dev nD) (i : Fin 12) => payTok c i)]
  congr 1
  exact bigSep_congr fun i _ => bigSep_univ_equiv (nbEquiv (payD i)) fun c : Dev nD => (dutyTok ER (kcell (c, payK i)) 0 (payDuty i) : sProp 𝕄)

/-! ## The cells' invariants, shared by every device -/

/-- What every device may use of every cell. -/
def shared (K : Dev nD × Cell → ℕ) : sProp 𝕄 :=
  iprop((bigSep Finset.univ fun ck : Dev nD × Cell => cellInv ER (sched m) (K ck) (kcell ck)) ∗ bigSep Finset.univ fun ck : Dev nD × Cell => reached ER (kcell ck) 0)
instance shared_persistent (K : Dev nD × Cell → ℕ) : BI.Persistent (shared m K) := by unfold shared; infer_instance

theorem records_of (K : Dev nD × Cell → ℕ) : iprop(shared m K ∗ levAts L lv) ⊢ (records m K : sProp 𝕄) := by
  unfold shared records
  iintro ⟨⟨H1, H2⟩, H3⟩
  isplitl [H1]; · iexact H1
  isplitl [H2]; · iexact H2
  iexact H3

/-- What a device has after the launch's update. -/
def G' (c : Dev nD) : sProp 𝕄 := iprop((∃ K, shared m K) ∗ LocSems c ∗ Rights c)

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => reached ER (kcell (c, k)) 0) ∗ LocSems c ∗ (bigSep Finset.univ fun k : Cell => pos c k) ∗ minted c) := by
  unfold G
  iintro ⟨Hos, Hus, Hst, ⟨Hat, Hr⟩, Htok⟩
  ihave Hv := (BIBase.Entails.of_eq (sems_eq (F := F) c)) $$ [Hos Hus]
  · isplitl [Hos] <;> iassumption
  icases Hv with ⟨Hloc, Hv⟩
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hloc]; · iexact Hloc
  isplitl [Hat]; · iexact Hat
  iexact Htok

/-- A persistent fact goes to every member of a family. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => reached ER (kcell (c, k)) 0) ∗ LocSems c ∗ (bigSep Finset.univ fun k : Cell => pos c k) ∗ minted c) : sProp 𝕄)
      ⊢ bigSep Finset.univ (G' m) := by
  rw [bigSep_sep', bigSep_sep', bigSep_sep', bigSep_sep', ← bigSep_univ_prod (fun ck : Dev nD × Cell => iprop(∃ κ : ℕ, cellInv ER (sched m) κ (kcell ck))),
    ← bigSep_univ_prod (fun ck : Dev nD × Cell => (reached ER (kcell ck) 0 : sProp 𝕄)), toks_around]
  iintro ⟨HI, HR, Hloc, Hat, Htok⟩
  ihave HK := (BI.bigSep_exists_pi Finset.univ (fun (ck : Dev nD × Cell) (κ : ℕ) => (cellInv ER (sched m) κ (kcell ck) : sProp 𝕄))) $$ HI
  icases HK with ⟨%K, HI⟩
  iapply (each_with (R := shared m K) (Φ := fun c => iprop(LocSems c ∗ (bigSep Finset.univ fun k : Cell => pos c k) ∗ dealt c)) fun c _ => show _ ⊢ G' m c from by
    unfold G' Rights dealt
    iintro ⟨HS, Hl, Hp, Ht, Hs⟩
    isplitl [HS]; · iexists K; iexact HS
    isplitl [Hl]; · iexact Hl
    isplitl [Ht]; · iexact Ht
    isplitl [Hs]; · iexact Hs
    iexact Hp)
  isplitl [HI HR]
  · unfold shared; isplitl [HI]; · iexact HI
    iexact HR
  rw [bigSep_sep', bigSep_sep']
  isplitl [Hloc]; · iexact Hloc
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem nb_eq_iff (d : Fin 3) (a c : Dev nD) : Iff (nb a d = c) (a = nb c d) :=
  ⟨fun h => by rw [← h, nb_nb], fun h => by rw [h, nb_nb]⟩

/-- What device `d` owes a cell of device `c`: each payment into that cell that goes from `d` to `c`. -/
theorem owed_at (d c : Dev nD) (k : Cell) :
    owed d 0 (kcell (c, k)) () = ∑ i : Fin 12, if payK i = k then (if d = nb c (payD i) then amt k else 0) else 0 := by
  unfold owed
  rw [Finset.filter_true_of_mem fun i _ => Nat.zero_le _, Finset.sum_apply, Finsupp.finset_sum_apply]
  refine Finset.sum_congr rfl fun i _ => ?_
  unfold debt
  rw [tallyAt_apply]
  by_cases hk : payK i = k
  · subst hk
    rw [if_pos rfl]
    by_cases hd : d = nb c (payD i)
    · rw [if_pos hd, if_pos ⟨by rw [hd, nb_nb], rfl⟩]
    · rw [if_neg hd, if_neg fun h => hd ((nb_eq_iff _ _ _).mp (congrArg Prod.fst (kcell_injective h.1)).symm)]
  · rw [if_neg hk, if_neg fun h => hk (congrArg Prod.snd (kcell_injective h.1)).symm]

theorem launch_cell (c : Dev nD) (k : Cell) (n : ℕ) (hn : (Finset.univ.filter fun i => payK i = k).card = n) :
    tallyOn (kcell (c, k)) (launchCredit (Pipeline.owing fun c => owed c 0) 0 (kcell (c, k))) = (tallyAt (kcell (c, k)) () (n * amt k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_comm]
  rw [Finset.sum_congr rfl fun i _ => show (∑ d : Dev nD, if payK i = k then (if d = nb c (payD i) then amt k else 0) else 0) = if payK i = k then amt k else 0 from by
    by_cases h : payK i = k
    · simp only [if_pos h]; rw [Finset.sum_ite_eq' Finset.univ (nb c (payD i)) fun _ => amt k, if_pos (Finset.mem_univ _)]
    · simp only [if_neg h]; exact Finset.sum_const_zero]
  rw [← Finset.sum_filter, Finset.sum_const, hn, smul_eq_mul]

/-- The cells others pay into: the barrier, and the arrivals. -/
def owedCell : Option Tr ↪ SemLoc sig :=
  ⟨fun o => csem (o.map fun j => (false, j)), fun a b h => Option.map_injective (fun x y h => congrArg Prod.snd h) (csem_injective h)⟩

theorem creds (c : Dev nD) : (Pipeline.launchCred (fun c => owed c 0) c : sProp 𝕄) ⊢ Credits c := by
  unfold Pipeline.launchCred Credits credit
  refine (bigSep_subset (t := Finset.univ.map owedCell) (Finset.subset_univ _)).trans (show bigSep _ _ ⊢ _ from BIBase.Entails.of_eq ?_)
  rw [bigSep_map, option_split]
  congr 1
  · exact congrArg cred (launch_cell c none 3 (by decide))
  · refine bigSep_congr fun j _ => congrArg cred ?_
    refine (launch_cell c (some (false, j)) 1 (by revert j; decide)).trans ?_
    rw [Nat.one_mul]

end Cert.SoftmaxProof

end
-- ==== Proof.Launch.lean ====
/-
The run: each device from what the launch gives it to what its body leaves, and all eight together.
-/
module

public import proofs.«01_k».proof.Proof.Ghost
public import Idealize.ShloMosaic.Lib.Pipeline.CollectiveSegs

@[expose] public section

noncomputable section

namespace Cert.SoftmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the body starts from and ends with -/

/-- The scratch buffers at any contents. -/
def Scratch (c : Dev nD) : sProp 𝕄 :=
  iprop(anyBuf c cc0_scratch0 ∗ anyBuf c cc0_scratch1 ∗ anyBuf c cc0_scratch2 ∗ anyBuf c cc0_scratch3 ∗ anyBuf c cc0_scratch4 ∗ anyBuf c cc0_scratch5)
/-- The weights as they are in memory. -/
def Weights (c : Dev nD) : sProp 𝕄 := iprop(((c : Thread nD τ).loc main_arg1) ↦{fullShare} m ((c : Thread nD τ).loc main_arg1))
/-- The result array, written. -/
def Written (c : Dev nD) : sProp 𝕄 :=
  iprop(∃ f : Buf (Elt F) ((c : Thread nD τ).loc main_v1), ⌜Result m c f⌝ ∗ ((c : Thread nD τ).loc main_v1) ↦{fullShare} f)

/-- What a device brings to its body. -/
def start (c : Dev nD) : sProp 𝕄 := iprop((∃ K, records m K) ∗ LocSems c ∗ Rights c ∗ Credits c ∗ Weights m c ∗ anyBuf c main_v1)
def Φ₀ (c : Dev nD) : sProp 𝕄 := iprop(start m c ∗ Scratch c)
def Φ₁ (c : Dev nD) : sProp 𝕄 := iprop(Scratch c ∗ LocSems c ∗ (bigSep Finset.univ fun k : Cell => semVal (kcell (c, k)) 0) ∗ Weights m c ∗ Written m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
  Φ t := match t with
    | ⟨0, _⟩ => Φ₀ m c
    | ⟨_ + 1, _⟩ => Φ₁ m c
  q _ := fullShare
  owed t := match t with
    | ⟨0, _⟩ => owed c 0
    | ⟨_ + 1, _⟩ => 0

abbrev 𝒱₀ : Variants := Variants.none

/-- What the pipeline passes the body, and takes back. -/
def bodyPre (c : Dev nD) : sProp 𝕄 :=
  iprop(Φ₀ m c ∗ (dats m ρ 0 c).owesAt () t₀.castSucc ∗ (∃ d, owns (c : Thread nD τ) xR fullShare ((dats m ρ 0 c).before (0 : Fin 1) t₀ d)))
def bodyPost (c : Dev nD) : sProp 𝕄 :=
  iprop(Φ₁ m c ∗ (dats m ρ 0 c).owesAt () t₀.succ ∗ xHeld m c)

theorem before_x (c : Dev nD) (d) : (dats m ρ 0 c).before (0 : Fin 1) t₀ d = xv m c := by
  unfold Dat.before; rw [if_pos (fetch0_0 t₀)]; rfl

theorem owe_intro (c : Dev nD) : (dats m ρ 0 c).owesAt () t₀.castSucc ⊢ (Owe c 0 : sProp 𝕄) := by
  unfold Dat.owesAt Pipeline.owesWithin Owe
  iintro ⟨%W, -, H⟩
  iexists W
  iexact H
theorem owe_exit (c : Dev nD) : (Owe c 12 : sProp 𝕄) ⊢ (dats m ρ 0 c).owesAt () t₀.succ := by
  unfold Dat.owesAt Pipeline.owesWithin Owe
  rw [owed_last]
  iintro ⟨%W, H⟩
  iexists W
  isplitr; · ipureintro; exact fun _ _ => Or.inl trivial
  iexact H

theorem before_intro (c : Dev nD) : iprop(Scratch c ∗ LocSems c ∗ Weights m c ∗ anyBuf c main_v1 ∗ xHeld m c ∗ Owe c 0) ⊢ (Before m c : sProp 𝕄) := by
  unfold Scratch Weights Before Ins
  iintro ⟨Hs, Hl, HW, Ho, Hx, HO⟩
  ihave Hs := (slots_split c) $$ Hs
  ihave HW := (BIBase.Entails.of_eq (weights_eq m c)) $$ HW
  ihave Ho := (result_split c) $$ Ho
  isplitl [Hs]; · iexact Hs
  isplitl [Hl]; · iexact Hl
  isplitl [Hx HW]
  · isplitl [Hx]; · iexact Hx
    iexact HW
  isplitl [HO]; · iexact HO
  iexact Ho

theorem after_exit (c : Dev nD) : (After m c : sProp 𝕄) ⊢ bodyPost m ρ c := by
  unfold After Ins bodyPost Φ₁ Scratch Weights Written
  iintro ⟨Hs, Hl, ⟨Hx, HW⟩, HO, Hk, Ho⟩
  ihave Hs := (slots_join c) $$ Hs
  ihave HW := (BIBase.Entails.of_eq (weights_eq m c).symm) $$ HW
  ihave Ho := (result_join m c) $$ Ho
  ihave HO := (owe_exit m ρ c) $$ HO
  isplitl [Hs Hl Hk HW Ho]
  · isplitl [Hs]; · iexact Hs
    isplitl [Hl]; · iexact Hl
    isplitl [Hk]; · iexact Hk
    isplitl [HW]; · iexact HW
    iexact Ho
  isplitl [HO]; · iexact HO
  iexact Hx

theorem body_run (c : Dev nD) : bodyPre m ρ c ⊢ WP (defs₀ (F := F)) 𝒱₀ c (onBufs (cc0_body (F := F))) (fun _ => bodyPost m ρ c) := by
  unfold bodyPre Φ₀ start
  iintro ⟨⟨⟨⟨%K, #HR⟩, Hl, Hr, Hc, HW, Ho⟩, Hs⟩, HO, ⟨%d, Hx⟩⟩
  ihave HO := (owe_intro m ρ c) $$ HO
  ihave Hx := (BIBase.Entails.of_eq (congrArg (owns (c : Thread nD τ) xR fullShare) (before_x m ρ c d))) $$ Hx
  ihave HB := (before_intro m c) $$ [Hs Hl HW Ho Hx HO]
  · isplitl [Hs]; · iexact Hs
    isplitl [Hl]; · iexact Hl
    isplitl [HW]; · iexact HW
    isplitl [Ho]; · iexact Ho
    isplitl [Hx]; · unfold xHeld; iexact Hx
    iexact HO
  iapply (sound_body m K (defs₀ (F := F)) 𝒱₀ c (Kt := fun _ => bodyPost m ρ c)) $$ HR HB Hr Hc
  iintro HA
  iapply (after_exit m ρ c); iexact HA

set_option maxRecDepth 8000 in
theorem body_obligation (c : Dev nD) : BodyObligation (dats (F := F) m ρ 0 c) (defs₀ (F := F)) 𝒱₀ () Set.univ := fun t => by
  rw [fin_N t]
  rw [bigSep_W0, bigSep_W0]
  exact body_run m ρ c

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => owed c 0) c ∗ prngReg c (ρ c) ∗ G' m c)
      ⊢ |={Set.univ}=> iprop(start m c ∗ emp) := by
  rw [Pipeline.unscopedRestP_none, unscopedRest0_eq]
  unfold start G' Weights
  iintro ⟨⟨HW, Ho⟩, Hlev, Hcr, -, ⟨%K, HS⟩, Hl, Hr⟩
  ihave Hc := (creds (F := F) c) $$ Hcr
  imodintro
  isplitl
  · isplitl [HS Hlev]
    · iexists K
      iapply (records_of m K)
      isplitl [HS]; · iexact HS
      iexact Hlev
    isplitl [Hl]; · iexact Hl
    isplitl [Hr]; · iexact Hr
    isplitl [Hc]; · iexact Hc
    isplitl [HW]; · iexact HW
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

/-- What a device shows of its final memory. -/
def Seen (c : Dev nD) : sProp 𝕄 := iprop(unscopedSems0 c ∗ Weights m c ∗ Written m c)

theorem phi1_exit (c : Dev nD) :
    (dats m ρ 0 c).Φ (Fin.last cfg0.N) ⊢ iprop(Seen m c ∗ Pipeline.ownSems0 osem c ∗ Pipeline.scopedRest cfg0.spec c) := by
  rw [show (dats m ρ 0 c).Φ (Fin.last cfg0.N) = Φ₁ m c from rfl, scopedRest0_eq]
  unfold Φ₁ Scratch Seen
  iintro ⟨Hs, Hl, Hk, HW, Ho⟩
  ihave Hsem := (BIBase.Entails.of_eq (sems_eq (F := F) c).symm) $$ [Hl Hk]
  · isplitl [Hl] <;> iassumption
  icases Hsem with ⟨H1, H2⟩
  isplitl [H2 HW Ho]
  · isplitl [H2]; · iexact H2
    isplitl [HW]; · iexact HW
    iexact Ho
  isplitl [H1]; · iexact H1
  iexact Hs

theorem waits (c : Dev nD) : (levAts L lv : sProp 𝕄) ⊢ Pipeline.cellsWaits cfgs (dats m ρ) () 0 c :=
  Pipeline.cellsWaits_intro cfgs (dats m ρ) () 0 c fun w s t => by
    have hs : slev (.dma ((cfg0.win w).sem s)) = 0 := slev_none (by revert w s; decide +kernel)
    rcases t with ⟨_ | n, ht⟩
    · exact mayWait c _ 0 fun i _ => by rw [hs]; exact clev_pay i
    · show _ ⊢ MayWait (c : Thread nD τ) _ () 0
      rw [← owed_last c]
      exact mayWait c _ 12 fun i h => by omega

/-! ## The run -/

/-- What the run leaves: the weights as they were, the result written. -/
def Left (c : Dev nD) (s : MemSt nD τ sig (Elt F)) : Prop :=
  s.mem ((c : Thread nD τ).loc main_arg1) = m ((c : Thread nD τ).loc main_arg1) ∧ Result m c (s.mem ((c : Thread nD τ).loc main_v1))
    ∧ ∀ sm : SemLoc sig, sm.isScoped .tc = false → s.sem ((c.tc : Thread nD τ), sm) = 0

theorem seen_read (c : Dev nD) (s' : Phys nD τ sig (Elt F)) :
    iprop(Seen m c ∗ emp ∗ SI s') ⊢ |={Set.univ}=> (iprop(⌜Left m c s'.mem⌝ ∗ SI s') : sProp 𝕄) := by
  unfold Seen Weights Written
  iintro ⟨⟨Hu, HW, ⟨%f, %hf, Ho⟩⟩, -, HSI⟩
  imod (Pipeline.unscopedSems0_read (X := unscopedSems0 c) (c := c) fupd_intro s') $$ [Hu HSI] with ⟨%h0, HSI⟩
  · isplitl [Hu] <;> iassumption
  ihave %hW := (SI_pointsTo_agree (st := s')) $$ [HSI HW]
  · isplitl [HSI] <;> iassumption
  ihave %ho := (SI_pointsTo_agree (st := s')) $$ [HSI Ho]
  · isplitl [HSI] <;> iassumption
  imodintro
  isplitr
  · ipureintro
    have e1 := funext fun i => hW i (Finset.mem_univ i)
    have e2 := funext fun i => ho i (Finset.mem_univ i)
    exact ⟨e1, e2 ▸ hf, h0⟩
  iexact HSI

set_option maxRecDepth 8000 in
/-- From any memory with zero counters every weakly fair execution of the kernel on the eight devices ends, with the arguments
    unchanged, each device's result written and every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1) ∧ Result m c (r.2.mem ((c : Thread nD τ).loc main_v1)))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun c => owed c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := Seen m) (Z := fun _ => iprop(emp))
    (hX := start_intro m ρ) (hin := phi0_intro m ρ) (hout := phi1_exit m ρ)
    (QY := Left m)
    (hY := seen_read m)
    (hQ := fun _ h hs => ⟨fun c => ⟨((h c).1 (0 : Fin 1)).trans ((dats m ρ 0 c).arrAt_in (0 : Fin 1) rfl _), (h c).2.2.1, (h c).2.2.2.1⟩,
      sem_eq_zero hs fun c => (h c).2.2.2.2⟩)

end Cert.SoftmaxProof

end
-- ==== Proof.Pieces.lean ====
/-
The values of one block, at the extended reals and index by index: a chunk of logits is the product
of the rows with its columns, a written piece is the exponentials of its logits times the reciprocal
of the row sums, and the row sums add the exponentials of every chunk.
-/
module

public import proofs.«01_k».proof.Proof.Contents
public import Idealize.ShloMosaic.Lib.Pointwise

@[expose] public section

noncomputable section

namespace Cert.SoftmaxProof

open Cert.KernelIdeal Cert.KernelIdeal.Gen
open Idealize.ShloMosaic Idealize.ShloMosaic.TcCoe
open scoped BigOperators

/-- The product of row `i` of `x` with column `j` of `w`. -/
def dotAt (x : Vec Ideal S256x512 .f32) (w : Vec Ideal S1x512x1024 .f32) (i : Fin 256) (j : Fin 1024) : EReal :=
  ∑ k : Fin 512, (x (ix2 i k) : EReal) * w (ix3 (0 : Fin 1) k j)

/-- The left half of a turn's logits. -/
theorem left_apply (x : Vec Ideal S256x512 .f32) (w : Vec Ideal S1x512x1024 .f32) (i : Fin 256) (j : Fin 512) :
    k0_pay3 x w (ix3 (0 : Fin 1) i j) = dotAt x w i ⟨j.val, by omega⟩ := by
  unfold dotAt
  pointwise [k0_pay3, k0_pay2, k0_pay1]

/-- The right half of a turn's logits. -/
theorem right_apply (x : Vec Ideal S256x512 .f32) (w : Vec Ideal S1x512x1024 .f32) (i : Fin 256) (j : Fin 512) :
    k0_pay4 x w (ix3 (0 : Fin 1) i j) = dotAt x w i ⟨512 + j.val, by omega⟩ := by
  unfold dotAt
  pointwise [k0_pay4, k0_pay2, k0_pay1]

/-- A written piece. -/
theorem piece_apply (q : FVec Ideal S256x1 .f32) (l : Vec Ideal S1x256x512 .bf16) (i : Fin 256) (j : Fin 512) :
    k0_pay22 q l (ix3 (0 : Fin 1) i j) = Ideal.exp (l (ix3 (0 : Fin 1) i j)) * q (ix2 i (0 : Fin 1)) := by
  pointwise [k0_pay22]

/-- The exponentials of row `i` of a chunk, added up. -/
def rowExp (l : Vec Ideal S1x256x512 .bf16) (i : Fin 256) : EReal := ∑ j : Fin 512, Ideal.exp (l (ix3 (0 : Fin 1) i j))

/-- The row sums of two chunks. -/
theorem sums2_apply (a b : Vec Ideal S1x256x512 .bf16) (i : Fin 256) :
    k0_pay15 a b (ix2 i (0 : Fin 1)) = rowExp a i + rowExp b i := by
  pointwise [k0_pay15]
  rfl

/-- Six more chunks added to the row sums. -/
theorem sums8_apply (s : FVec Ideal S256x1 .f32) (a b c d e f : Vec Ideal S1x256x512 .bf16) (i : Fin 256) :
    k0_pay16 s a b c d e f (ix2 i (0 : Fin 1))
      = s (ix2 i (0 : Fin 1)) + (rowExp a i + rowExp b i) + (rowExp c i + rowExp d i) + (rowExp e i + rowExp f i) := by
  pointwise [k0_pay16]
  rfl

/-- The reciprocal of the sum of the two halves' row sums. -/
theorem inv_apply (s p : FVec Ideal S256x1 .f32) (i : Fin 256) :
    k0_pay18 s p (ix2 i (0 : Fin 1)) = Ideal.div 1 (s (ix2 i (0 : Fin 1)) + p (ix2 i (0 : Fin 1))) := by
  pointwise [k0_pay18]

/-- What is sent is the row sums. -/
theorem sent_eq (s : FVec Ideal S256x1 .f32) (a b c d e f : Vec Ideal S1x256x512 .bf16) :
    k0_pay17 s a b c d e f = k0_pay16 s a b c d e f := by
  funext j; pointwise [k0_pay17]

end Cert.SoftmaxProof

end
-- ==== Proof.Logits.lean ====
/-
The logits of the whole problem, and where each chunk of them lies: a device's chunk is 512 of the
8192 columns, and a chunk that arrives from another device is another 512 of them.
-/
module

public import proofs.«01_k».proof.Proof.Pieces

@[expose] public section

noncomputable section

namespace Cert.SoftmaxProof

open Cert.KernelIdeal Cert.KernelIdeal.Gen
open Idealize.ShloMosaic Idealize.ShloMosaic.TcCoe
open scoped BigOperators

/-- The whole weights. -/
abbrev S512x8192 : Shape := ⟨2, ![512, 8192]⟩

variable (m : (ℓ : Loc nD τ sig) → Buf (Elt Ideal) ℓ) (X : S256x512.Idx → EReal) (W : S512x8192.Idx → EReal)

/-- Every device holds the whole rows and its half of the weights' columns. -/
def Placed : Prop := ∀ c : Dev nD,
  m ((c : Thread nD τ).loc main_arg0) = X
    ∧ m ((c : Thread nD τ).loc main_arg1)
      = Layout.blockN ⟨2, ![512, 4096]⟩ ⟨2, ![512, 8192]⟩ (Layout.meshBlock [2, 2, 2] ![[], [0]] c) W

/-- The logit of row `i` and column `n`. -/
def logit (i : Fin 256) (n : Fin 8192) : EReal := ∑ k : Fin 512, X (ix2 i k) * W (ix2 k n)

/-- Column `y` of the `t`-th sixteenth of the columns. -/
def col (t : Fin 16) (y : Fin 512) : Fin 8192 := ⟨512 * t.val + y.val, by omega⟩

/-- The sixteenth that device `c` computes as its chunk `j`. -/
def own (c : Dev nD) (j : Fin 8) : Fin 16 := Fin.ofNat 16 (8 * (c.val / 4) + (lcol c j).val)

theorem own_even : ∀ (c : Dev nD) (r : Fin 4), (own c (Fin.ofNat 8 (2 * r.val))).val = 8 * (c.val / 4) + 2 * (qd c r).val := by
  decide +kernel
theorem own_odd : ∀ (c : Dev nD) (r : Fin 4), (own c (Fin.ofNat 8 (2 * r.val + 1))).val = 8 * (c.val / 4) + 2 * (qd c r).val + 1 := by
  decide +kernel
theorem even_or_odd : ∀ j : Fin 8, ∃ r : Fin 4, j = Fin.ofNat 8 (2 * r.val) ∨ j = Fin.ofNat 8 (2 * r.val + 1) := by decide

theorem lg_even (c : Dev nD) (r : Fin 4) : lg m c (Fin.ofNat 8 (2 * r.val)) = k0_pay3 (xv m c) (wX m c r) := by
  fin_cases r <;> rfl
theorem lg_odd (c : Dev nD) (r : Fin 4) : lg m c (Fin.ofNat 8 (2 * r.val + 1)) = k0_pay4 (xv m c) (wX m c r) := by
  fin_cases r <;> rfl

/-- Contents without the unit axis, read under it, and the other way around. -/
theorem unsq_apply {e : EltTy} {a b : Nat} (h : (⟨3, ![1, a, b]⟩ : Shape).Squeezes ⟨2, ![a, b]⟩) (Y : (⟨2, ![a, b]⟩ : Shape).Idx → Elt Ideal e)
    (i : Fin a) (j : Fin b) : unsq h Y (ix3 (0 : Fin 1) i j) = Y (ix2 i j) :=
  congrArg Y ((Equiv.symm_apply_eq _).2 (Shape.reshapeEquiv_eq_of_rowMajor h.numel_eq (by
    rw [Shape.rowMajor_val_three, Shape.rowMajor_val_two]
    show ((0 : ℕ) * a + i.val) * b + j.val = i.val * b + j.val
    rw [Nat.zero_mul, Nat.zero_add])).symm)

theorem sq_apply {e : EltTy} {a b : Nat} (h : (⟨3, ![1, a, b]⟩ : Shape).Squeezes ⟨2, ![a, b]⟩) (Y : (⟨3, ![1, a, b]⟩ : Shape).Idx → Elt Ideal e)
    (i : Fin a) (j : Fin b) : sq h Y (ix2 i j) = Y (ix3 (0 : Fin 1) i j) :=
  congrArg Y (Shape.reshapeEquiv_eq_of_rowMajor h.numel_eq (by
    rw [Shape.rowMajor_val_three, Shape.rowMajor_val_two]
    show ((0 : ℕ) * a + i.val) * b + j.val = i.val * b + j.val
    rw [Nat.zero_mul, Nat.zero_add]))

/-- The staged rows are the device's rows. -/
theorem xv_eq (c : Dev nD) : xv m c = m ((c : Thread nD τ).loc main_arg0) := by
  funext i
  refine congrArg (m ((c : Thread nD τ).loc main_arg0)) (funext fun a => Fin.ext ?_)
  refine (Rect.emb_apply _ _ _).trans ?_
  show 0 * _ + 1 * (i a).val = (i a).val
  omega

/-- A turn's window of the weights, at an index. -/
theorem wX_apply (h : Placed m X W) (c : Dev nD) (r : Fin 4) (k : Fin 512) (y : Fin 1024) :
    wX m c r (ix3 (0 : Fin 1) k y) = W (ix2 k ⟨4096 * (c.val / 4) + 1024 * (qd c r).val + y.val, by
      have := c.isLt; have := (qd c r).isLt; have := y.isLt; simp only [nD] at *; omega⟩) := by
  unfold wX
  rw [unsq_apply]
  unfold Wx
  rw [(h c).2]
  refine congrArg W (funext fun a => Fin.ext ?_)
  rw [Layout.TilesN.idx_val]
  have hb : ∀ c : Dev nD, Layout.meshLin [2, 2, 2] c.val [0] = c.val / 4 := by decide
  match a with
  | ⟨0, _⟩ =>
    show 0 * 512 + (0 + 1 * k.val) = k.val
    omega
  | ⟨1, _⟩ =>
    show Layout.meshLin [2, 2, 2] c.val [0] * 4096 + (1024 * (qd c r).val + 1 * y.val) = 4096 * (c.val / 4) + 1024 * (qd c r).val + y.val
    rw [hb]; omega

/-- A chunk of logits lies where its sixteenth does. -/
theorem lg_apply (h : Placed m X W) (c : Dev nD) (j : Fin 8) (i : Fin 256) (y : Fin 512) :
    lg m c j (ix3 (0 : Fin 1) i y) = logit X W i (col (own c j) y) := by
  obtain ⟨r, hr | hr⟩ := even_or_odd j <;> subst hr
  · rw [lg_even, left_apply]
    unfold dotAt logit
    refine Finset.sum_congr rfl fun k _ => ?_
    rw [wX_apply m X W h, xv_eq, (h c).1]
    congr 3
    apply Fin.ext
    simp only [col, own_even]; omega
  · rw [lg_odd, right_apply]
    unfold dotAt logit
    refine Finset.sum_congr rfl fun k _ => ?_
    rw [wX_apply m X W h, xv_eq, (h c).1]
    congr 3
    apply Fin.ext
    simp only [col, own_odd]; omega

/-- Which device's chunk piece `t` of device `c`'s result is made of. -/
def src (c : Dev nD) (t : Fin 16) : Dev nD × Fin 8 :=
  if t.val < 8 then (c, Fin.ofNat 8 t.val) else arrive (fun c j => (c, j)) c (Fin.ofNat 8 (t.val - 8))

theorem own_src : ∀ (c : Dev nD) (t : Fin 16), own (src c t).1 (src c t).2 = wcol c t := by decide +kernel

/-- The pieces are written by one operation, whichever way its operands reach it. -/
theorem ov_own (f : Dev nD → Fin 8 → S1x256x512.Idx → Elt Ideal .bf16) (s p : S256x1.Idx → Elt Ideal .f32) (c : Dev nD) (t : Fin 16) :
    (![k0_pay19 s p (f c 0), k0_pay21 (k0_pay20 s p (f c 1)),
      k0_pay22 (k0_pay18 s p) (f c 2), k0_pay24 (k0_pay18 s p) (k0_pay23 (f c 3)),
      k0_pay25 (k0_pay18 s p) (f c 4), k0_pay26 (k0_pay18 s p) (f c 5), k0_pay27 (k0_pay18 s p) (f c 6), k0_pay28 (k0_pay18 s p) (f c 7),
      k0_pay29 (k0_pay18 s p) (arrive f c 0), k0_pay30 (k0_pay18 s p) (arrive f c 1), k0_pay31 (k0_pay18 s p) (arrive f c 2),
      k0_pay32 (k0_pay18 s p) (arrive f c 3), k0_pay33 (k0_pay18 s p) (arrive f c 4), k0_pay34 (k0_pay18 s p) (arrive f c 5),
      k0_pay35 (k0_pay18 s p) (arrive f c 6), k0_pay37 (k0_pay36 (k0_pay18 s p) (arrive f c 7))] : Fin 16 → _) t
      = k0_pay22 (k0_pay18 s p) (f (src c t).1 (src c t).2) := by
  fin_cases t <;> rfl

/-- Piece `t` is written from the chunk that lies there. -/
theorem ov_eq (c : Dev nD) (t : Fin 16) : ov m c t = k0_pay22 (inv m c) (lg m (src c t).1 (src c t).2) :=
  ov_own (lg m) (s8 m c) (sv m (xn c)) c t

end Cert.SoftmaxProof

end
-- ==== Proof.Sums.lean ====
/-
The row sums: a device's eight chunks are one half of the columns, its `x` neighbour's are the
other, so that the two row sums together are the sum over all columns. Then the result: what lies in
it at any index is the row's softmax there.
-/
module

public import proofs.«01_k».proof.Proof.Logits
public import proofs.«01_k».proof.Proof.Whole

@[expose] public section

noncomputable section

namespace Cert.SoftmaxProof

open Cert.KernelIdeal Cert.KernelIdeal.Gen
open Idealize.ShloMosaic Idealize.ShloMosaic.TcCoe
open scoped BigOperators

variable (m : (ℓ : Loc nD τ sig) → Buf (Elt Ideal) ℓ) (X : S256x512.Idx → EReal) (W : S512x8192.Idx → EReal)

/-- A device's eight sixteenths and its `x` neighbour's are all sixteen. -/
theorem own_injective : ∀ (c : Dev nD) (a b : Fin 8 ⊕ Fin 8),
    Sum.elim (own c) (own (xn c)) a = Sum.elim (own c) (own (xn c)) b → a = b := by decide +kernel
theorem own_bijective (c : Dev nD) : Function.Bijective (Sum.elim (own c) (own (xn c))) :=
  (Fintype.bijective_iff_injective_and_card _).2 ⟨fun a b => own_injective c a b, rfl⟩

theorem sum_halves (c : Dev nD) (f : Fin 16 → EReal) : (∑ j, f (own c j)) + ∑ j, f (own (xn c) j) = ∑ t, f t := by
  rw [← (own_bijective c).sum_comp f, Fintype.sum_sum_type]; rfl

/-- The columns, a sixteenth at a time. -/
theorem sum_cols (f : Fin 8192 → EReal) : ∑ t : Fin 16, ∑ y : Fin 512, f (col t y) = ∑ n, f n := by
  rw [← Fintype.sum_prod_type' fun t y => f (col t y)]
  refine Fintype.sum_equiv (finProdFinEquiv (m := 16) (n := 512)) _ _ fun p => congrArg f (Fin.ext ?_)
  show 512 * p.1.val + p.2.val = p.2.val + 512 * p.1.val
  omega

/-- The exponentials of row `i`, over all columns. -/
def total (i : Fin 256) : EReal := ∑ n : Fin 8192, Ideal.exp (logit X W i n)
/-- The softmax of row `i` at column `n`. -/
def softmax (i : Fin 256) (n : Fin 8192) : EReal := Ideal.exp (logit X W i n) * Ideal.div 1 (total X W i)

/-- A chunk's row sum. -/
theorem rowExp_lg (h : Placed m X W) (c : Dev nD) (j : Fin 8) (i : Fin 256) :
    rowExp (lg m c j) i = ∑ y, Ideal.exp (logit X W i (col (own c j) y)) :=
  Finset.sum_congr rfl fun y _ => by rw [lg_apply m X W h]

/-- A device's row sum, as it is kept and as it is sent. -/
theorem half_apply (h : Placed m X W) (c : Dev nD) (i : Fin 256) :
    s8 m c (ix2 i (0 : Fin 1)) = ∑ j, ∑ y, Ideal.exp (logit X W i (col (own c j) y)) := by
  unfold s8 s2
  rw [sums8_apply, sums2_apply, Fin.sum_univ_eight]
  simp only [rowExp_lg m X W h, add_assoc]
theorem sent_half (c : Dev nD) : sv m c = s8 m c := sent_eq ..

/-- The reciprocal a device scales by. -/
theorem inv_total (h : Placed m X W) (c : Dev nD) (i : Fin 256) : inv m c (ix2 i (0 : Fin 1)) = Ideal.div 1 (total X W i) := by
  unfold inv
  rw [inv_apply, sent_half, half_apply m X W h, half_apply m X W h,
    sum_halves c fun t => ∑ y, Ideal.exp (logit X W i (col t y)), sum_cols fun n => Ideal.exp (logit X W i n)]
  rfl

/-- What lies in the result. -/
theorem result_apply (h : Placed m X W) (c : Dev nD) (f : Buf (Elt Ideal) ((c : Thread nD τ).loc main_v1)) (hf : Result m c f)
    (i : Fin 256) (n : Fin 8192) : f (ix2 i n) = softmax X W i n := by
  obtain ⟨t, ht⟩ := wcol_surjective c ⟨n.val / 512, by omega⟩
  have hn : n = col (wcol c t) ⟨n.val % 512, Nat.mod_lt _ (by decide)⟩ := Fin.ext (by
    rw [ht]; show n.val = 512 * (n.val / 512) + n.val % 512; omega)
  have hi : (ix2 i n : S256x8192.Idx) = (outRect (wcol c t)).emb (ix2 i ⟨n.val % 512, Nat.mod_lt _ (by decide)⟩) := by
    funext a
    refine Fin.ext ((congrArg (fun n => ((ix2 i n : S256x8192.Idx) a).val) hn).trans ((Rect.emb_apply _ _ _).trans ?_).symm)
    match a with
    | ⟨0, _⟩ => show 0 + 1 * i.val = i.val; omega
    | ⟨1, _⟩ => show 512 * (wcol c t).val + 1 * (n.val % 512) = 512 * (wcol c t).val + n.val % 512; omega
  rw [hi]
  refine (hf t _).trans ?_
  rw [sq_apply, ov_eq, piece_apply, lg_apply m X W h, own_src, ← hn, inv_total m X W h]
  rfl

end Cert.SoftmaxProof

end
-- ==== Proof.Arith.lean ====
/-
The arithmetic of a softmax over finite entries: shifting every exponent by one number leaves the
quotient unchanged, so dividing the shifted exponentials by their sum is multiplying the unshifted
ones by the reciprocal of theirs.
-/
module

public import Idealize.ShloMosaic.Lib.Pointwise

@[expose] public section

noncomputable section

namespace Cert.SoftmaxProof

open Idealize.ShloMosaic
open scoped BigOperators

/-- A sum of finite numbers is the real sum. -/
theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many finite numbers, at least one, is finite. -/
theorem fold_max_real {ι : Type} [Fintype ι] [Nonempty ι] (l : ι → ℝ) :
    ∃ r : ℝ, (Finset.univ : Finset ι).fold max (⊥ : EReal) (fun j => ((l j : ℝ) : EReal)) = (r : EReal) := by
  have hlt : (Finset.univ : Finset ι).fold max (⊥ : EReal) (fun j => ((l j : ℝ) : EReal)) < ⊤ :=
    (Finset.fold_max_lt _).2 ⟨bot_lt_top, fun x _ => EReal.coe_lt_top _⟩
  have hgt : (⊥ : EReal) < (Finset.univ : Finset ι).fold max (⊥ : EReal) (fun j => ((l j : ℝ) : EReal)) :=
    (Finset.lt_fold_max _).2 (.inr ⟨Classical.arbitrary ι, Finset.mem_univ _, EReal.bot_lt_coe _⟩)
  exact ⟨_, (EReal.coe_toReal hlt.ne hgt.ne').symm⟩

/-- A softmax entry, its exponents shifted by `b` and divided by their sum, is the unshifted exponential times the
    reciprocal of the unshifted sum. -/
theorem softmax_shift {ι : Type} [Fintype ι] [Nonempty ι] (l : ι → ℝ) (b : ℝ) (i : ι) :
    Ideal.div (Ideal.exp (((l i : ℝ) : EReal) - (b : EReal))) (∑ j, Ideal.exp (((l j : ℝ) : EReal) - (b : EReal)))
      = Ideal.exp ((l i : ℝ) : EReal) * Ideal.div 1 (∑ j, Ideal.exp ((l j : ℝ) : EReal)) := by
  have hpos : (0 : ℝ) < ∑ j, Real.exp (l j) := Finset.sum_pos (fun _ _ => Real.exp_pos _) Finset.univ_nonempty
  have hpos' : (0 : ℝ) < ∑ j, Real.exp (l j - b) := Finset.sum_pos (fun _ _ => Real.exp_pos _) Finset.univ_nonempty
  simp only [← EReal.coe_sub, Ideal.exp_coe, coe_sum_real]
  rw [Ideal.div_coe hpos.ne', Ideal.div_coe hpos'.ne', one_mul, ← EReal.coe_mul, ← EReal.coe_mul]
  congr 1
  have hs : ∑ j, Real.exp (l j - b) = (∑ j, Real.exp (l j)) / Real.exp b := by
    rw [Finset.sum_div]; exact Finset.sum_congr rfl fun j _ => Real.exp_sub _ _
  rw [hs, Real.exp_sub]
  have := Real.exp_pos b
  field_simp

end Cert.SoftmaxProof

end
-- ==== Proof.Reference.lean ====
/-
The reference, index by index: the exponential of a logit less its row's greatest, over the sum of
those exponentials. At finite arguments every logit is finite, and this is the softmax the kernel
computes without subtracting anything.
-/
module

public import proofs.«01_k».proof.Proof.Sums
public import proofs.«01_k».proof.Proof.Arith
public import proofs.«01_k».proof.Proof.Gen.ReferenceIdeal
public import Idealize.ShloMosaic.Lib.Pointwise

@[expose] public section

noncomputable section

namespace Cert.SoftmaxProof

open Cert.ReferenceIdeal Cert.ReferenceIdeal.Gen
open Idealize.ShloMosaic Idealize.ShloMosaic.TcCoe
open scoped BigOperators

/-- The reference's logits, and its rows' greatest in every column. -/
def refLogits (X : FVec Ideal S256x512 .f32) (W : FVec Ideal S512x8192 .f32) : FVec Ideal S256x8192 .f32 :=
  Host.dotGeneral dot_S256x512_S512x8192_S256x8192_1_0_0_1_n_n none X W
def refMax (X : FVec Ideal S256x512 .f32) (W : FVec Ideal S512x8192 .f32) : FVec Ideal S256x8192 .f32 :=
  broadcastInDim S256x8192 ![0, 1] bcast_S256x1_S256x8192_0_1 (broadcastInDim S256x1 ![0] bcast_S256_S256x1_0
    (Host.reduce FloatOps.maximumf (refLogits X W) (constant S_ .f32 0xFF800000#32) reducesTo_S256x8192_S256_d1 h_S_))
/-- Its exponentials and its result. -/
def refExp (X : FVec Ideal S256x512 .f32) (W : FVec Ideal S512x8192 .f32) : FVec Ideal S256x8192 .f32 :=
  Host.exp (subf (refLogits X W) (refMax X W))
def refOut (X : FVec Ideal S256x512 .f32) (W : FVec Ideal S512x8192 .f32) : FVec Ideal S256x8192 .f32 :=
  Host.divf (refExp X W) (broadcastInDim S256x8192 ![0, 1] bcast_S256x1_S256x8192_0_1 (broadcastInDim S256x1 ![0] bcast_S256_S256x1_0
    (Host.reduceAdd (refExp X W) (constant S_ .f32 0x00000000#32) reducesTo_S256x8192_S256_d1 h_S_)))

variable (X : FVec Ideal S256x512 .f32) (W : FVec Ideal S512x8192 .f32)

theorem refLogits_apply (i : Fin 256) (n : Fin 8192) : refLogits X W (ix2 i n) = logit X W i n := by
  unfold logit
  pointwise [refLogits]

theorem refMax_apply (i : Fin 256) (n : Fin 8192) :
    refMax X W (ix2 i n) = Finset.univ.fold max (⊥ : EReal) (fun k => logit X W i k) := by
  pointwise [refMax]
  rw [show Ideal.ofBits .f32 0xFF800000#32 = ⊥ by simp [Ideal.ofBits, Ideal.ieee]]
  simp only [refLogits_apply]

theorem refExp_apply (i : Fin 256) (n : Fin 8192) : refExp X W (ix2 i n) = Ideal.exp (logit X W i n - refMax X W (ix2 i n)) := by
  rw [← refLogits_apply]; rfl

theorem refOut_apply (i : Fin 256) (n : Fin 8192) :
    refOut X W (ix2 i n) = Ideal.div (refExp X W (ix2 i n)) (∑ k : Fin 8192, refExp X W (ix2 i k)) := by
  pointwise [refOut]

/-- Finite contents. -/
def AllReal {s : Shape} (Y : s.Idx → EReal) : Prop := ∀ j, ∃ r : ℝ, Y j = (r : EReal)

/-- Contents whose magnitudes compare below infinity are finite. -/
theorem allReal_of_lt {s : Shape} (Y b : FVec Ideal s .f32) (hb : ∀ j, b j = Ideal.ofBits .f32 0x7F800000#32)
    (h : cmpf .olt (Host.absf Y) b = fun _ => 1#1) : AllReal Y := by
  intro j
  have hj : Ideal.cmp .olt (max (Y j : EReal) (-(Y j : EReal))) (b j) = 1#1 := congrFun h j
  rw [hb, show Ideal.ofBits .f32 0x7F800000#32 = ⊤ by simp [Ideal.ofBits, Ideal.ieee]] at hj
  have hlt : max (Y j : EReal) (-(Y j : EReal)) < ⊤ := by
    by_contra hn
    simp [Ideal.cmp, hn] at hj
  refine ⟨(Y j : EReal).toReal, (EReal.coe_toReal (max_lt_iff.mp hlt).1.ne fun hbot => ?_).symm⟩
  have := (max_lt_iff.mp hlt).2
  rw [hbot] at this
  simp at this

/-- Weights whose blocks are finite on every device are finite. -/
theorem allReal_of_blocks (W : S512x8192.Idx → EReal)
    (h : ∀ c : Dev 8, AllReal (Layout.blockN ⟨2, ![512, 4096]⟩ ⟨2, ![512, 8192]⟩ (Layout.meshBlock [2, 2, 2] ![[], [0]] c) W)) :
    AllReal W := by
  intro j
  have h0 : (j 0).val < 512 := (j 0).isLt
  have h1 : (j 1).val < 8192 := (j 1).isLt
  have hd : ∀ q : Fin 2, Layout.meshLin [2, 2, 2] (4 * q.val) [0] = q.val := by decide
  obtain ⟨r, hr⟩ := h ⟨4 * ((j 1).val / 4096), by omega⟩
    (ix2 ⟨(j 0).val, h0⟩ ⟨(j 1).val % 4096, Nat.mod_lt _ (by decide)⟩ : (⟨2, ![512, 4096]⟩ : Shape).Idx)
  refine ⟨r, hr ▸ congrArg W (funext fun a => Fin.ext ?_)⟩
  rw [Layout.TilesN.idx_val]
  match a with
  | ⟨0, _⟩ => show (j 0).val = 0 * 512 + (j 0).val; omega
  | ⟨1, _⟩ =>
    show (j 1).val = Layout.meshLin [2, 2, 2] (4 * ((j 1).val / 4096)) [0] * 4096 + (j 1).val % 4096
    rw [hd ⟨(j 1).val / 4096, by omega⟩]
    show (j 1).val = (j 1).val / 4096 * 4096 + (j 1).val % 4096
    omega

/-- Finite arguments have finite logits. -/
theorem logit_real (hX : AllReal X) (hW : AllReal W) (i : Fin 256) : ∃ l : Fin 8192 → ℝ, ∀ n, logit X W i n = ((l n : ℝ) : EReal) := by
  choose x hx using hX
  choose w hw using hW
  refine ⟨fun n => ∑ k : Fin 512, x (ix2 i k) * w (ix2 k n), fun n => ?_⟩
  unfold logit
  rw [← coe_sum_real]
  exact Finset.sum_congr rfl fun k _ => by rw [hx, hw, EReal.coe_mul]

/-- At finite arguments the reference is the softmax. -/
theorem refOut_softmax (hX : AllReal X) (hW : AllReal W) (i : Fin 256) (n : Fin 8192) : refOut X W (ix2 i n) = softmax X W i n := by
  obtain ⟨l, hl⟩ := logit_real X W hX hW i
  obtain ⟨b, hb⟩ := fold_max_real l
  have hM : ∀ n, refMax X W (ix2 i n) = (b : EReal) := fun n => by rw [refMax_apply, ← hb]; simp only [hl]
  rw [refOut_apply]
  simp only [refExp_apply, hM]
  unfold softmax total
  simp only [hl]
  exact softmax_shift l b n

end Cert.SoftmaxProof

end
-- ==== Proof.lean ====
/-
The certificate: the frames of the kernel, at bit patterns and at extended reals, from one run over any
float values; the reference's frame; and the equation of the two programs' results at finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The run over any float values, read at the arguments and the counters. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.SoftmaxProof.run_main m ρ)

/-- The kernel's two printings, at bit patterns and at extended reals, are one text: their bodies are the same … -/
theorem bodies_eq : Cert.Kernel.defs₀ (F := Bits) = Cert.KernelIdeal.defs₀ := by
  unfold Cert.Kernel.defs₀ Cert.KernelIdeal.defs₀
  refine congrArg Defs.onTc ?_
  funext l a
  match l, a with
  | 0, (t, s) => rfl

/-- … and so are their tables of bodies. -/
theorem tables_eq : Cert.Kernel.defs (F := Bits) = Cert.KernelIdeal.defs := by
  unfold Cert.Kernel.defs Cert.KernelIdeal.defs
  rw [bodies_eq]
  rfl

/-- So the run over any float values is the kernel's run at bit patterns. -/
theorem frame_kernel : Cert.quiescent_Kernel := by
  intro m ρ _
  rw [tables_eq]
  exact frame_any (F := Bits) m ρ

/-- The run at extended reals. -/
theorem frame_ideal : Cert.quiescent_KernelIdeal := fun m ρ _ => frame_any (F := Ideal) m ρ

/-- The reference's run keeps its arguments, and the reference has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The preconditions' own side conditions. -/
theorem facts_finite_kernel : Cert.Pre_finite_KernelIdeal.Facts := ⟨by decide, by decide⟩
theorem facts_finite_reference : Cert.Pre_finite_ReferenceIdeal.Facts := ⟨by decide, by decide⟩

open Cert.SoftmaxProof in
/-- At finite arguments the kernel's result on every device is the reference's: the softmax. -/
theorem algebraic : Cert.algebraic_KernelIdeal_ReferenceIdeal_pre_finite_KernelIdeal (hPre_finite_KernelIdeal := facts_finite_kernel) := by
  intro m g m' g' hfin hm
  have hX : AllReal (m' (((0 : Dev Cert.ReferenceIdeal.nD).tc : Thread Cert.ReferenceIdeal.nD Cert.ReferenceIdeal.τ).loc Cert.ReferenceIdeal.main_arg0)) := by
    rw [← (hm 0).1]
    exact allReal_of_lt _ _ (fun _ => rfl) (hfin 0).1
  have hW : AllReal (m' (((0 : Dev Cert.ReferenceIdeal.nD).tc : Thread Cert.ReferenceIdeal.nD Cert.ReferenceIdeal.τ).loc Cert.ReferenceIdeal.main_arg1)) :=
    allReal_of_blocks _ fun c => by
      rw [← (hm c).2]
      exact allReal_of_lt _ _ (fun _ => rfl) (hfin c).2
  refine ⟨refOut _ _, (θ_run Cert.KernelIdeal.defs _ _).mono (fun r h c => ⟨?_, (h.1 c).1, (h.1 c).2.1⟩) (run_main m g),
    (θ_run Cert.ReferenceIdeal.defs _ _).mono (fun r h => h 0) (Cert.ReferenceIdeal.Value.run (F := Ideal) m' g')⟩
  funext j
  have hj : j = ix2 (⟨(j 0).val, (j 0).isLt⟩ : Fin 256) (⟨(j 1).val, (j 1).isLt⟩ : Fin 8192) := by
    funext a
    match a with
    | ⟨0, _⟩ => rfl
    | ⟨1, _⟩ => rfl
  rw [hj]
  exact (result_apply m _ _ (fun c => hm c) c _ (h.1 c).2.2 _ _).trans (refOut_softmax _ _ hX hW _ _).symm

theorem claim : Cert.Claim := ⟨Cert.Kernel.Gen.facts, Cert.KernelIdeal.Gen.facts, Cert.ReferenceIdeal.Gen.facts,
  facts_finite_kernel, facts_finite_reference, frame_kernel, frame_ideal, fun m ρ _ => frame_ideal m ρ trivial,
  frame_reference, fun m ρ _ => frame_reference m ρ trivial, trivial, algebraic⟩

end Cert.Proof

end
